-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v84) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg1) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_v10) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S4096x1024 1 × IVec S4096x1024 1 × IVec S1x1024 1 × IVec S1024x2816 1 × IVec S1024x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite4.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S4096x1024 .f32) (main_v2 : IVec S4096x1024 1) (main_v5 : IVec S1x1024 1) (main_v8 : IVec S1024x2816 1) (main_v11 : IVec S1024x2816 1) (main_v14 : IVec S2816x1024 1) (main_v17 : IVec S1x1024 1) : IVec S4096x1024 1 × IVec S1x1024 1 × IVec S1024x2816 1 × IVec S1024x2816 1 × IVec S2816x1024 1 × IVec S1x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S4096x1024 .f32) : IVec S4096x1024 1 × IVec S1x1024 1 × IVec S1024x2816 1 × IVec S1024x2816 1 × IVec S2816x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Kernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x5632 : Shape := ⟨2, ![4096, 5632]⟩
abbrev S4096x2048 : Shape := ⟨2, ![4096, 2048]⟩
abbrev S256x1024 : Shape := ⟨2, ![256, 1024]⟩
abbrev S256x2816 : Shape := ⟨2, ![256, 2816]⟩
abbrev S256x5632 : Shape := ⟨2, ![256, 5632]⟩
abbrev S256x2048 : Shape := ⟨2, ![256, 2048]⟩
abbrev S3 : Shape := ⟨1, ![3]⟩
abbrev S1 : Shape := ⟨1, ![1]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩
abbrev S1024 : Shape := ⟨1, ![1024]⟩

abbrev nBuf : Space → Nat
  | .hbm => 34
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .bf16⟩
  | .hbm, ⟨23, _⟩ => ⟨S4096x2816, .f32⟩
  | .hbm, ⟨24, _⟩ => ⟨S4096x2816, .bf16⟩
  | .hbm, ⟨25, _⟩ => ⟨S2816x1024, .f32⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .bf16⟩
  | .hbm, ⟨30, _⟩ => ⟨S4096x1024, .f32⟩
  | .hbm, ⟨31, _⟩ => ⟨S4096x5632, .bf16⟩
  | .hbm, ⟨32, _⟩ => ⟨S4096x2048, .bf16⟩
  | .hbm, ⟨33, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x2048, .bf16⟩
  | .local _ .vmem, ⟨14, _⟩ => ⟨S256x2048, .bf16⟩
  | .local _ .vmem, ⟨15, _⟩ => ⟨S1x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S4096x5632 : Shape := ⟨2, ![4096, 5632]⟩
abbrev S4096x2048 : Shape := ⟨2, ![4096, 2048]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x5632, .f32⟩
  | .hbm, ⟨84, _⟩ => ⟨S4096x5632, .bf16⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x2048, .f32⟩
  | .hbm, ⟨89, _⟩ => ⟨S4096x2048, .bf16⟩
  | .hbm, ⟨90, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1280x1024 : Shape := ⟨2, ![1280, 1024]⟩
abbrev S512x1280 : Shape := ⟨2, ![512, 1280]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .bf16⟩
  | .hbm, ⟨22, _⟩ => ⟨S4096x2816, .bf16⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S512x1024 : Shape := ⟨2, ![512, 1024]⟩
abbrev S512x2816 : Shape := ⟨2, ![512, 2816]⟩
abbrev S1 : Shape := ⟨1, ![1]⟩

abbrev nBuf : Space → Nat
  | .hbm => 35
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S2816x1024, .bf16⟩
  | .hbm, ⟨34, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S512x1024 : Shape := ⟨2, ![512, 1024]⟩
abbrev S512x2816 : Shape := ⟨2, ![512, 2816]⟩
abbrev S1 : Shape := ⟨1, ![1]⟩
abbrev S512 : Shape := ⟨1, ![512]⟩
abbrev S512x1 : Shape := ⟨2, ![512, 1]⟩
abbrev S1024 : Shape := ⟨1, ![1024]⟩

abbrev nBuf : Space → Nat
  | .hbm => 39
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S2816x1024, .bf16⟩
  | .hbm, ⟨36, _⟩ => ⟨S4096x1024, .f32⟩
  | .hbm, ⟨37, _⟩ => ⟨S1x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S_, .f32⟩
  | .hbm, ⟨109, _⟩ => ⟨S4096x1, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S4096x1, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S_, .f32⟩
  | .hbm, ⟨122, _⟩ => ⟨S1024, .f32⟩
  | .hbm, ⟨123, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_cst_12 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_cst_20 : Ref sig .tc := ⟨.hbm, 108, rfl⟩
abbrev main_v72 : Ref sig .tc := ⟨.hbm, 109, rfl⟩
abbrev main_v73 : Ref sig .tc := ⟨.hbm, 110, rfl⟩
abbrev main_cst_21 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_22 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]
-- ==== Kernel5.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S4x256x1024 : Shape := ⟨3, ![4, 256, 1024]⟩
abbrev S_ : Shape := ⟨0, ![]⟩
abbrev S4x288x1024 : Shape := ⟨3, ![4, 288, 1024]⟩
abbrev S1152x1024 : Shape := ⟨2, ![1152, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩
abbrev S520x512 : Shape := ⟨2, ![520, 512]⟩
abbrev S544x512 : Shape := ⟨2, ![544, 512]⟩
abbrev S3x544x128 : Shape := ⟨3, ![3, 544, 128]⟩
abbrev S5 : Shape := ⟨1, ![5]⟩
abbrev S1 : Shape := ⟨1, ![1]⟩
abbrev S256x1024 : Shape := ⟨2, ![256, 1024]⟩
abbrev S8x512 : Shape := ⟨2, ![8, 512]⟩
abbrev S32x512 : Shape := ⟨2, ![32, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S536x128 : Shape := ⟨2, ![536, 128]⟩
abbrev S1x536x128 : Shape := ⟨3, ![1, 536, 128]⟩
abbrev S1x512x128 : Shape := ⟨3, ![1, 512, 128]⟩
abbrev S1x528x128 : Shape := ⟨3, ![1, 528, 128]⟩
abbrev S528x128 : Shape := ⟨2, ![528, 128]⟩
abbrev S1x520x128 : Shape := ⟨3, ![1, 520, 128]⟩
abbrev S520x128 : Shape := ⟨2, ![520, 128]⟩

abbrev nBuf : Space → Nat
  | .hbm => 18
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S3x512, .f32⟩
  | .hbm, ⟨4, _⟩ => ⟨S4x128x128, .f32⟩
  | .hbm, ⟨5, _⟩ => ⟨S1x512, .f32⟩
  | .hbm, ⟨6, _⟩ => ⟨S1024x1024, .f32⟩
  | .hbm, ⟨7, _⟩ => ⟨S1024x1024, .bf16⟩
  | .hbm, ⟨8, _⟩ => ⟨S4x256x1024, .bf16⟩
  | .hbm, ⟨9, _⟩ => ⟨S_, .i32⟩
  | .hbm, ⟨10, _⟩ => ⟨S_, .bf16⟩
  | .hbm, ⟨11, _⟩ => ⟨S4x288x1024, .bf16⟩
  | .hbm, ⟨12, _⟩ => ⟨S1152x1024, .bf16⟩
  | .hbm, ⟨13, _⟩ => ⟨S2048x1024, .f32⟩
  | .hbm, ⟨14, _⟩ => ⟨S2048x1024, .bf16⟩
  | .hbm, ⟨15, _⟩ => ⟨S4096x1024, .f32⟩
  | .hbm, ⟨16, _⟩ => ⟨S4096x2048, .bf16⟩
  | .hbm, ⟨17, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x512, .f32⟩
  | .local _ .vmem, ⟨4, _⟩ => ⟨S4x128x128, .f32⟩
  | .local _ .vmem, ⟨5, _⟩ => ⟨S1x512, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .vmem, ⟨13, _⟩ => ⟨S1024x1024, .bf16⟩
  | .local _ .vmem, ⟨14, _⟩ => ⟨S520x512, .f32⟩
  | .local _ .vmem, ⟨15, _⟩ => ⟨S544x512, .f32⟩
  | .local _ .vmem, ⟨16, _⟩ => ⟨S3x544x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S3x512, .f32⟩
  | .hbm, ⟨4, _⟩ => ⟨S4x128x128, .f32⟩
  | .hbm, ⟨5, _⟩ => ⟨S1x512, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2048, .f32⟩
  | .hbm, ⟨23, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Proof.Model.lean ====
/- The half step's backward pass over the real numbers: what every intermediate value of the two programs is when the
   six arguments are finite, and the lemmas that carry a finite extended real through the operations. -/
module

public import Idealize.ShloMosaic.PureOps.Ideal.Laws
public import Idealize.ShloMosaic.Lib.IdealHost
public import Mathlib.Analysis.SpecialFunctions.Exp

@[expose] public section

noncomputable section

namespace Cert.Proof.Model

open Idealize.ShloMosaic
open scoped BigOperators

/-! ## Finite extended reals through the operations -/

/-- A sum of reals is the same sum taken among the extended reals. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient of reals by a real that is not zero. -/
theorem div_coe (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- The exponential of a real. -/
theorem exp_real (x : ℝ) : Ideal.exp (x : EReal) = ((Real.exp x : ℝ) : EReal) := Ideal.exp_coe x

/-- The stabilizer under the root of the norm: the f32 nearest to 1e-6. -/
def eps : ℝ := 8796093 / 2 ^ 43

theorem eps_pos : 0 < eps := by unfold eps; positivity

theorem ofBits_1024 : Ideal.ofBits .f32 0x44800000#32 = ((1024 : ℝ) : EReal) := by
  simp [Ideal.ofBits, Ideal.ieee, -EReal.coe_mul]; norm_num

theorem ofBits_eps : Ideal.ofBits .f32 0x358637BD#32 = ((eps : ℝ) : EReal) := by
  unfold eps
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_top : Ideal.ofBits .f32 0x7F800000#32 = ⊤ := by
  simp [Ideal.ofBits, Ideal.ieee]

/-! ## The half step's backward pass -/

/-- The six arguments as real arrays: the cotangent of the half step's output, its input, the norm's gain and the
    three weights of the gate. -/
structure Args where
  U : Fin 4096 → Fin 1024 → ℝ
  X : Fin 4096 → Fin 1024 → ℝ
  G : Fin 1024 → ℝ
  Wg : Fin 1024 → Fin 2816 → ℝ
  Wu : Fin 1024 → Fin 2816 → ℝ
  Wd : Fin 2816 → Fin 1024 → ℝ

variable (p : Args)

/-- The mean square of a row, stabilized. -/
def ms (r : Fin 4096) : ℝ := (∑ k, p.X r k * p.X r k) / 1024 + eps

theorem ms_pos (r : Fin 4096) : 0 < ms p r :=
  add_pos_of_nonneg_of_pos (div_nonneg (Finset.sum_nonneg fun k _ => mul_self_nonneg _) (by norm_num)) eps_pos

/-- The reciprocal root of the mean square. -/
def rr (r : Fin 4096) : ℝ := (Real.sqrt (ms p r))⁻¹

theorem rr_sq (r : Fin 4096) : rr p r * rr p r = (ms p r)⁻¹ := by
  unfold rr
  rw [← mul_inv, Real.mul_self_sqrt (ms_pos p r).le]

/-- The row normalized. -/
def xh (r : Fin 4096) (j : Fin 1024) : ℝ := p.X r j * rr p r

/-- The norm's output. -/
def hh (r : Fin 4096) (j : Fin 1024) : ℝ := xh p r j * p.G j

/-- The gate's argument. -/
def aa (r : Fin 4096) (k : Fin 2816) : ℝ := ∑ j, hh p r j * p.Wg j k

/-- What the gate multiplies. -/
def bb (r : Fin 4096) (k : Fin 2816) : ℝ := ∑ j, hh p r j * p.Wu j k

/-- The logistic function of a real. -/
def sg (a : ℝ) : ℝ := 1 / (1 + Real.exp (-a))

theorem one_add_exp_ne (a : ℝ) : 1 + Real.exp (-a) ≠ 0 := (add_pos one_pos (Real.exp_pos _)).ne'

/-- The cotangent of the gated product. -/
def ds (r : Fin 4096) (k : Fin 2816) : ℝ := ∑ j, (1 / 2 * p.U r j) * p.Wd k j

/-- The cotangent of the gate's argument. -/
def da (r : Fin 4096) (k : Fin 2816) : ℝ :=
  ds p r k * bb p r k * (sg (aa p r k) * (1 + aa p r k * (1 - sg (aa p r k))))

/-- The cotangent of what the gate multiplies. -/
def db (r : Fin 4096) (k : Fin 2816) : ℝ := ds p r k * (aa p r k * sg (aa p r k))

/-- The cotangent of the norm's output. -/
def dh (r : Fin 4096) (j : Fin 1024) : ℝ := (∑ k, da p r k * p.Wg j k) + ∑ k, db p r k * p.Wu j k

/-- The cotangent of the norm's gain. -/
def dg (j : Fin 1024) : ℝ := ∑ r, dh p r j * xh p r j

/-- The cotangent of the half step's input: the residual branch and the norm's. -/
def dx (r : Fin 4096) (j : Fin 1024) : ℝ :=
  p.U r j + rr p r * (dh p r j * p.G j - xh p r j * ((∑ k, dh p r k * p.G k * xh p r k) / 1024))

/-- The two branches' cotangents side by side. -/
def dab (r : Fin 4096) (c : Fin 5632) : ℝ :=
  if h : c.val < 2816 then da p r ⟨c.val, h⟩ else db p r ⟨c.val - 2816, by have := c.isLt; omega⟩

/-- The norm's output and the halved cotangent side by side. -/
def hd (r : Fin 4096) (c : Fin 2048) : ℝ :=
  if h : c.val < 1024 then hh p r ⟨c.val, h⟩ else 1 / 2 * p.U r ⟨c.val - 1024, by have := c.isLt; omega⟩

/-- The same cotangent, as differentiating the norm term by term gives it: the root's own derivative is
    `-1/2 · rsqrt m / m`, and the square's cotangent comes twice. -/
theorem dx_eq (r : Fin 4096) (j : Fin 1024) :
    p.U r j + (dh p r j * p.G j * rr p r
        + p.X r j * ((∑ k, p.X r k * (dh p r k * p.G k)) * (-(1 / 2) * (rr p r / ms p r)) / 1024)
        + (∑ k, p.X r k * (dh p r k * p.G k)) * (-(1 / 2) * (rr p r / ms p r)) / 1024 * p.X r j)
      = dx p r j := by
  have hs : ∑ k, dh p r k * p.G k * xh p r k = (∑ k, p.X r k * (dh p r k * p.G k)) * rr p r := by
    rw [Finset.sum_mul]
    exact Finset.sum_congr rfl fun k _ => by unfold xh; ring
  unfold dx
  rw [hs, div_eq_mul_inv (rr p r), ← rr_sq]
  unfold xh
  ring

end Cert.Proof.Model

end
-- ==== Proof.RefValue.lean ====
/- The reference at finite arguments: every value its operations compute, read at an index, is the real number that
   Model.lean names. One lemma per value that another lemma needs. -/
module

public import proofs.«01_k».proof.Proof.Model
public import proofs.«01_k».proof.Proof.Gen.ReferenceIdeal.Read
public import Idealize.ShloMosaic.Lib.Pointwise

@[expose] public section

noncomputable section

namespace Cert.Proof.RefValue

open Idealize.ShloMosaic Cert.ReferenceIdeal Cert.ReferenceIdeal.Gen Cert.ReferenceIdeal.Read Cert.Proof.Model
open scoped BigOperators

variable (p : Args)

/-- The six argument arrays hold the reals of `p`. -/
structure Lifts (x0 x1 : S4096x1024.Idx → EReal) (x2 : S1x1024.Idx → EReal) (x3 x4 : S1024x2816.Idx → EReal)
    (x5 : S2816x1024.Idx → EReal) : Prop where
  h0 : ∀ i, x0 i = ((p.U (i 0) (i 1) : ℝ) : EReal)
  h1 : ∀ i, x1 i = ((p.X (i 0) (i 1) : ℝ) : EReal)
  h2 : ∀ i, x2 i = ((p.G (i 1) : ℝ) : EReal)
  h3 : ∀ i, x3 i = ((p.Wg (i 0) (i 1) : ℝ) : EReal)
  h4 : ∀ i, x4 i = ((p.Wu (i 0) (i 1) : ℝ) : EReal)
  h5 : ∀ i, x5 i = ((p.Wd (i 0) (i 1) : ℝ) : EReal)

variable {p} {x0 x1 : S4096x1024.Idx → EReal} {x2 : S1x1024.Idx → EReal} {x3 x4 : S1024x2816.Idx → EReal}
  {x5 : S2816x1024.Idx → EReal} (L : Lifts p x0 x1 x2 x3 x4 x5)
include L

/-- The stabilized mean square of a row. -/
theorem v6 (i : S4096x1.Idx) : val_main_v6 (F := Ideal) x1 i = ((ms p (i 0) : ℝ) : EReal) := by
  simp only [val_main_v6_apply, val_main_v4_apply, val_main_v2_apply, val_main_v1_apply, val_main_v3_apply,
    val_main_v5_apply, val_main_v0_apply, val_main_cst_apply, val_main_cst_0_apply, val_main_cst_1_apply,
    Ideal.addf_def, Ideal.mulf_def, Ideal.hostDivf_def, Ideal.ofBits_def, Ideal.ofBits_zero_f32, zero_add,
    ofBits_1024, ofBits_eps, L.h1, ← EReal.coe_mul, sum_coe]
  rw [div_coe _ (by norm_num), ← EReal.coe_add]
  rfl

/-- The reciprocal root of the mean square. -/
theorem v7 (i : S4096x1.Idx) : val_main_v7 (F := Ideal) x1 i = ((rr p (i 0) : ℝ) : EReal) := by
  rw [val_main_v7_apply, v6 L, Ideal.hostUnary_rsqrt_def]
  exact rsqrt_pos (ms_pos p (i 0))

/-- The root's derivative at a row. -/
theorem v10 (i : S4096x1.Idx) :
    val_main_v10 (F := Ideal) x1 i = ((-(1 / 2) * (rr p (i 0) / ms p (i 0)) : ℝ) : EReal) := by
  rw [val_main_v10_apply, val_main_v9_apply, val_main_cst_2_apply, val_main_v8_apply, v7 L, v6 L, Ideal.hostDivf_def,
    Ideal.mulf_def, Ideal.ofBits_def, ofBits_neg_half]
  exact (congrArg _ (div_coe (rr p (i 0)) (ms_pos p (i 0)).ne')).trans (EReal.coe_mul _ _).symm

/-- The normalized row. -/
theorem v12 (i : S4096x1024.Idx) : val_main_v12 (F := Ideal) x1 i = ((xh p (i 0) (i 1) : ℝ) : EReal) := by
  rw [val_main_v12_apply, val_main_v11_apply, v7 L, L.h1, Ideal.mulf_def, ← EReal.coe_mul]
  rfl

/-- The norm's output. -/
theorem v14 (i : S4096x1024.Idx) : val_main_v14 (F := Ideal) x1 x2 i = ((hh p (i 0) (i 1) : ℝ) : EReal) := by
  rw [val_main_v14_apply, val_main_v13_apply, v12 L, L.h2, Ideal.mulf_def, ← EReal.coe_mul]
  rfl

/-- The gate's argument. -/
theorem v15 (i : S4096x2816.Idx) : val_main_v15 (F := Ideal) x1 x2 x3 i = ((aa p (i 0) (i 1) : ℝ) : EReal) := by
  simp only [val_main_v15_apply, v14 L, L.h3, ← EReal.coe_mul, sum_coe]
  rfl

/-- What the gate multiplies. -/
theorem v16 (i : S4096x2816.Idx) : val_main_v16 (F := Ideal) x1 x2 x4 i = ((bb p (i 0) (i 1) : ℝ) : EReal) := by
  simp only [val_main_v16_apply, v14 L, L.h4, ← EReal.coe_mul, sum_coe]
  rfl

/-- The logistic function of the gate's argument. -/
theorem v17_2 (i : S4096x2816.Idx) :
    val_main_v17_2 (F := Ideal) x1 x2 x3 i = ((sg (aa p (i 0) (i 1)) : ℝ) : EReal) := by
  simp only [val_main_v17_2_apply, val_main_call0_v4_apply, val_main_call0_v3_apply, val_main_call0_v2_apply,
    val_main_call0_v1_apply, val_main_call0_v0_apply, val_main_call0_cst_apply, val_main_call0_cst_0_apply, v15 L,
    Ideal.addf_def, Ideal.hostDivf_def, Ideal.hostNegf_def, Ideal.negf_def, Ideal.hostUnary_exp_def, Ideal.ofBits_def,
    Ideal.ofBits_one_f32, ← EReal.coe_neg, exp_real, ← EReal.coe_one, ← EReal.coe_add]
  rw [div_coe _ (one_add_exp_ne _)]
  rfl

/-- The logistic function's derivative. -/
theorem v17_1 (i : S4096x2816.Idx) :
    val_main_v17_1 (F := Ideal) x1 x2 x3 i
      = ((sg (aa p (i 0) (i 1)) * (1 - sg (aa p (i 0) (i 1))) : ℝ) : EReal) := by
  simp only [val_main_v17_1_apply, val_main_call0_v7_apply, val_main_call0_v6_apply, val_main_call0_cst_1_apply,
    v17_2 L, Ideal.mulf_def, Ideal.subf_def, Ideal.ofBits_def, Ideal.ofBits_one_f32, ← EReal.coe_one, ← EReal.coe_sub,
    ← EReal.coe_mul]

/-- The gate. -/
theorem v17_0 (i : S4096x2816.Idx) :
    val_main_v17_0 (F := Ideal) x1 x2 x3 i = ((aa p (i 0) (i 1) * sg (aa p (i 0) (i 1)) : ℝ) : EReal) := by
  rw [val_main_v17_0_apply, v15 L, v17_2 L, Ideal.mulf_def, ← EReal.coe_mul]

/-- The cotangent halved. -/
theorem v25 (i : S4096x1024.Idx) : val_main_v25 (F := Ideal) x0 i = ((1 / 2 * p.U (i 0) (i 1) : ℝ) : EReal) := by
  rw [val_main_v25_apply, val_main_v24_apply, val_main_cst_4_apply, val_main_v23_apply, L.h0, Ideal.mulf_def,
    Ideal.ofBits_def, ofBits_half, ← EReal.coe_mul]
  have h0 : idx_main_v23 i 0 = i 0 := Fin.ext (by
    have h : (i 1).val < 1024 := (i 1).isLt
    show ((i 0).val * 1024 + (i 1).val) / 1024 = (i 0).val
    omega)
  have h1 : idx_main_v23 i 1 = i 1 := Fin.ext (by
    have h : (i 1).val < 1024 := (i 1).isLt
    show ((i 0).val * 1024 + (i 1).val) % 1024 = (i 1).val
    omega)
  rw [h0, h1]

/-- The gated product's cotangent. -/
theorem v26 (i : S4096x2816.Idx) : val_main_v26 (F := Ideal) x0 x5 i = ((ds p (i 0) (i 1) : ℝ) : EReal) := by
  simp only [val_main_v26_apply, v25 L, L.h5, ← EReal.coe_mul, sum_coe]
  rfl

/-- The second branch's cotangent. -/
theorem v27 (i : S4096x2816.Idx) :
    val_main_v27 (F := Ideal) x0 x1 x2 x3 x5 i = ((db p (i 0) (i 1) : ℝ) : EReal) := by
  rw [val_main_v27_apply, v17_0 L, v26 L, Ideal.mulf_def, ← EReal.coe_mul, mul_comm]
  rfl

/-- The gate's cotangent. -/
theorem v29 (i : S4096x2816.Idx) :
    val_main_v29 (F := Ideal) x0 x1 x2 x3 x4 x5 i = ((da p (i 0) (i 1) : ℝ) : EReal) := by
  simp only [val_main_v29_apply, val_main_call1_v2_apply, val_main_call1_v1_apply, val_main_call1_v0_apply,
    val_main_v28_apply, v15 L, v16 L, v17_1 L, v17_2 L, v26 L, Ideal.mulf_def, Ideal.addf_def, ← EReal.coe_mul,
    ← EReal.coe_add]
  congr 1
  unfold da
  ring

/-- The norm's cotangent. -/
theorem v32 (i : S4096x1024.Idx) :
    val_main_v32 (F := Ideal) x0 x1 x2 x3 x4 x5 i = ((dh p (i 0) (i 1) : ℝ) : EReal) := by
  simp only [val_main_v32_apply, val_main_v30_apply, val_main_v31_apply, v27 L, v29 L, L.h3, L.h4, Ideal.addf_def,
    ← EReal.coe_mul, sum_coe, ← EReal.coe_add]
  first
    | rfl
    | exact congrArg _ (add_comm _ _)

/-- The gain's cotangent. -/
theorem v35 (i : S1x1024.Idx) : val_main_v35 (F := Ideal) x0 x1 x2 x3 x4 x5 i = ((dg p (i 1) : ℝ) : EReal) := by
  simp only [val_main_v35_apply, val_main_v34_apply, val_main_v33_apply, val_main_cst_5_apply, v12 L, v32 L,
    Ideal.mulf_def, Ideal.ofBits_def, Ideal.ofBits_zero_f32, zero_add, ← EReal.coe_mul, sum_coe]
  refine congrArg _ (Finset.sum_congr rfl fun r _ => ?_)
  have e : idx_main_v34 (idx_main_v35 i) r 1 = i 1 := Fin.ext (by
    have h : (i 0).val < 1 := (i 0).isLt
    show (i 0).val * 1024 + (i 1).val = (i 1).val
    omega)
  rw [e]
  exact mul_comm (xh p r (i 1)) (dh p r (i 1))

/-- The norm's cotangent scaled by the gain. -/
theorem v37 (i : S4096x1024.Idx) :
    val_main_v37 (F := Ideal) x0 x1 x2 x3 x4 x5 i = ((dh p (i 0) (i 1) * p.G (i 1) : ℝ) : EReal) := by
  rw [val_main_v37_apply, val_main_v36_apply, v32 L, L.h2, Ideal.mulf_def, ← EReal.coe_mul]
  rfl

/-- The mean square's cotangent, spread over its row. -/
theorem v47 (i : S4096x1024.Idx) :
    val_main_v47 (F := Ideal) x0 x1 x2 x3 x4 x5 i
      = (((∑ k, p.X (i 0) k * (dh p (i 0) k * p.G k)) * (-(1 / 2) * (rr p (i 0) / ms p (i 0))) / 1024 : ℝ) : EReal) := by
  simp only [val_main_v47_apply, val_main_v46_apply, val_main_v45_apply, val_main_v43_apply, val_main_v40_apply,
    val_main_v39_apply, val_main_v38_apply, val_main_v44_apply, val_main_cst_6_apply, val_main_cst_7_apply,
    val_main_cst_8_apply, v10 L, v37 L, L.h1, Ideal.mulf_def, Ideal.hostDivf_def, Ideal.ofBits_def,
    Ideal.ofBits_zero_f32, ofBits_1024, zero_add, ← EReal.coe_mul, sum_coe, Fin.sum_univ_one,
    div_coe _ (show (1024 : ℝ) ≠ 0 by norm_num)]
  refine congrArg _ (congrArg (· / (1024 : ℝ)) (congrArg₂ (· * ·) ?_ ?_))
  · refine Finset.sum_congr rfl fun k _ => ?_
    have e : idx_main_v39 (idx_main_v40 (idx_main_v46 (idx_main_v47 i) 0)) k 0 = i 0 := Fin.ext (by
      show (i 0).val * 1 + 0 = (i 0).val
      omega)
    rw [e]
    rfl
  · rfl

/-- The input's cotangent. -/
theorem v58 (i : S4096x1024.Idx) :
    val_main_v58 (F := Ideal) x0 x1 x2 x3 x4 x5 i = ((dx p (i 0) (i 1) : ℝ) : EReal) := by
  rw [val_main_v58_apply, val_main_v51_apply, val_main_v50_apply, val_main_v49_apply, val_main_v48_apply,
    val_main_v42_apply, val_main_v41_apply, v47 L, v37 L, v7 L, L.h0, L.h1]
  simp only [Ideal.mulf_def, Ideal.addf_def, ← EReal.coe_mul, ← EReal.coe_add]
  exact congrArg _ (dx_eq p _ _)

omit L in
/-- Two arrays of 2816 columns joined, at an index. -/
theorem join_2816 (y z : FVec Ideal S4096x2816 .f32) (i : S4096x5632.Idx) :
    concatenate S4096x5632 1 [⟨S4096x2816, y⟩, ⟨S4096x2816, z⟩] concatenates_S4096x2816_S4096x2816_S4096x5632_d1 i
      = if h : (i 1).val < 2816 then y (ix2 (i 0) ⟨(i 1).val, h⟩)
        else z (ix2 (i 0) ⟨(i 1).val - 2816, by have h : (i 1).val < 5632 := (i 1).isLt; omega⟩) := by
  pointwise

omit L in
/-- Two arrays of 1024 columns joined, at an index. -/
theorem join_1024 (y z : FVec Ideal S4096x1024 .f32) (i : S4096x2048.Idx) :
    concatenate S4096x2048 1 [⟨S4096x1024, y⟩, ⟨S4096x1024, z⟩] concatenates_S4096x1024_S4096x1024_S4096x2048_d1 i
      = if h : (i 1).val < 1024 then y (ix2 (i 0) ⟨(i 1).val, h⟩)
        else z (ix2 (i 0) ⟨(i 1).val - 1024, by have h : (i 1).val < 2048 := (i 1).isLt; omega⟩) := by
  pointwise

/-- The two branches' cotangents side by side. -/
theorem v53 (i : S4096x5632.Idx) :
    val_main_v53 (F := Ideal) x0 x1 x2 x3 x4 x5 i = ((dab p (i 0) (i 1) : ℝ) : EReal) := by
  rw [val_main_v53_apply, Ideal.truncf_def, val_main_v52, join_2816]
  unfold dab
  split
  · exact v29 L _
  · exact v27 L _

/-- The norm's output and the halved cotangent side by side. -/
theorem v57 (i : S4096x2048.Idx) :
    val_main_v57 (F := Ideal) x0 x1 x2 i = ((hd p (i 0) (i 1) : ℝ) : EReal) := by
  rw [val_main_v57_apply, Ideal.truncf_def, val_main_v56, join_1024]
  unfold hd
  split
  · exact v14 L _
  · rw [val_main_v55_apply, val_main_v54_apply, val_main_cst_9_apply, L.h0, Ideal.mulf_def, Ideal.ofBits_def, ofBits_half,
      ← EReal.coe_mul]
    rfl

end Cert.Proof.RefValue

end
-- ==== Proof.HostValue.lean ====
/- What the kernel's host program hands to the launch, at finite arguments: the three weights, two of them transposed, and
   the two saved forward values, which its plain lines compute as the reference's do. -/
module

public import proofs.«01_k».proof.Proof.RefValue
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.Proof.HostValue

open Idealize.ShloMosaic Idealize.SL.Sem Cert.KernelIdeal Cert.KernelIdeal.Gen Cert.Proof.Model

variable {p : Args} (m : (ℓ : Loc nD τ sig) → Buf (Elt Ideal) ℓ) (c : Dev nD)

/-- The launched arguments hold the reals of `p`. -/
abbrev Holds (p : Args) : Prop :=
  RefValue.Lifts p (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

variable {m c}

/-- The saved gate argument is the reference's. -/
theorem entry_a : (V m c main_v13 : FVec Ideal S4096x2816 .bf16)
    = Cert.ReferenceIdeal.Read.val_main_v15 (F := Ideal) (m ((c.tc : Thread nD τ).loc main_arg1))
        (m ((c.tc : Thread nD τ).loc main_arg2)) (m ((c.tc : Thread nD τ).loc main_arg3)) := by
  entry_read
  rfl

/-- The saved other factor is the reference's. -/
theorem entry_b : (V m c main_v15 : FVec Ideal S4096x2816 .bf16)
    = Cert.ReferenceIdeal.Read.val_main_v16 (F := Ideal) (m ((c.tc : Thread nD τ).loc main_arg1))
        (m ((c.tc : Thread nD τ).loc main_arg2)) (m ((c.tc : Thread nD τ).loc main_arg4)) := by
  entry_read
  rfl

variable (L : Holds m c p)
include L

/-- The saved gate argument at an index. -/
theorem a_at (i : S4096x2816.Idx) : (V m c main_v13 : FVec Ideal S4096x2816 .bf16) i = ((aa p (i 0) (i 1) : ℝ) : EReal) := by
  rw [entry_a]; exact RefValue.v15 L i

/-- The saved other factor at an index. -/
theorem b_at (i : S4096x2816.Idx) : (V m c main_v15 : FVec Ideal S4096x2816 .bf16) i = ((bb p (i 0) (i 1) : ℝ) : EReal) := by
  rw [entry_b]; exact RefValue.v16 L i

/-- The gate's weight, transposed. -/
theorem wg_at (i : S2816x1024.Idx) : (V m c main_v17 : FVec Ideal S2816x1024 .bf16) i = ((p.Wg (i 1) (i 0) : ℝ) : EReal) := by
  entry_read
  pointwise
  exact L.h3 _

/-- The other factor's weight, transposed. -/
theorem wu_at (i : S2816x1024.Idx) : (V m c main_v19 : FVec Ideal S2816x1024 .bf16) i = ((p.Wu (i 1) (i 0) : ℝ) : EReal) := by
  entry_read
  pointwise
  exact L.h4 _

/-- The gated product's weight. -/
theorem wd_at (i : S2816x1024.Idx) : (V m c main_v20 : FVec Ideal S2816x1024 .bf16) i = ((p.Wd (i 0) (i 1) : ℝ) : EReal) := by
  entry_read
  pointwise
  exact L.h5 _

end Cert.Proof.HostValue

end
-- ==== Proof.KernelBlock.lean ====
/- One block of 256 rows in the kernel at finite arguments: every value its body computes, read at an index, is the real
   number that Model.lean names. The block's rows are rows `ρ` of the arrays; the two column chunks of the hidden width
   are the columns `lo` and `hi`. -/
module

public import proofs.«01_k».proof.Proof.Model
public import proofs.«01_k».proof.Proof.Gen.KernelIdeal.Skeleton
public import Idealize.ShloMosaic.Lib.Pointwise

@[expose] public section

set_option maxRecDepth 16384

noncomputable section

namespace Cert.Proof.KernelBlock

open Idealize.ShloMosaic Cert.KernelIdeal Cert.KernelIdeal.Gen Cert.Proof.Model
open scoped BigOperators

/-- A column of the first chunk of the hidden width. -/
def lo (k : Fin 1536) : Fin 2816 := ⟨k.val, by omega⟩

/-- A column of the second chunk of the hidden width. -/
def hi (k : Fin 1280) : Fin 2816 := ⟨1536 + k.val, by omega⟩

/-- A sum over the hidden width is the sum over its two chunks. -/
theorem sum_chunks (f : Fin 2816 → ℝ) : ∑ k, f k = (∑ k, f (lo k)) + ∑ k, f (hi k) :=
  Fin.sum_univ_add (a := 1536) (b := 1280) f

variable {p : Args} {ρ : Fin 256 → Fin 4096}
variable {u x : FVec Ideal S256x1024 .f32} {g : FVec Ideal S1x1024 .f32}

/-- The reciprocal root of a row's mean square. -/
theorem pay3 (hx : ∀ i, x i = ((p.X (ρ (i 0)) (i 1) : ℝ) : EReal)) (i : S256x1.Idx) :
    k0_pay3 (F := Ideal) x i = ((rr p (ρ (i 0)) : ℝ) : EReal) := by
  pointwise [k0_pay3]
  simp only [hx, ofBits_1024, ofBits_eps, ← EReal.coe_mul, sum_coe]
  rw [div_coe _ (by norm_num), ← EReal.coe_add]
  exact rsqrt_pos (ms_pos p (ρ (i 0)))

/-- The normalized row. -/
theorem pay4 (hx : ∀ i, x i = ((p.X (ρ (i 0)) (i 1) : ℝ) : EReal)) (i : S256x1024.Idx) :
    k0_pay4 (F := Ideal) x i = ((xh p (ρ (i 0)) (i 1) : ℝ) : EReal) := by
  pointwise [k0_pay4]
  rw [pay3 hx, hx, ← EReal.coe_mul]
  rfl

/-- The norm's output. -/
theorem pay5 (hx : ∀ i, x i = ((p.X (ρ (i 0)) (i 1) : ℝ) : EReal)) (hg : ∀ i, g i = ((p.G (i 1) : ℝ) : EReal))
    (i : S256x1024.Idx) : k0_pay5 (F := Ideal) x g i = ((hh p (ρ (i 0)) (i 1) : ℝ) : EReal) := by
  pointwise [k0_pay5]
  rw [pay4 hx, hg, ← EReal.coe_mul]
  rfl

/-- The cotangent halved. -/
theorem pay6 (hu : ∀ i, u i = ((p.U (ρ (i 0)) (i 1) : ℝ) : EReal)) (i : S256x1024.Idx) :
    k0_pay6 (F := Ideal) u i = ((1 / 2 * p.U (ρ (i 0)) (i 1) : ℝ) : EReal) := by
  pointwise [k0_pay6]
  rw [hu, ofBits_half, ← EReal.coe_mul]

/-! ## The first chunk of the hidden width -/

section Lo

variable {wd wg wu : FVec Ideal S1536x1024 .bf16} {a : FVec Ideal S256x1536 .f32} {b : FVec Ideal S256x1536 .bf16}
  {s : FVec Ideal S256x1536 .f32} {a' : FVec Ideal S256x1536 .bf16}

/-- The gated product's cotangent. -/
theorem pay8 (hu : ∀ i, u i = ((p.U (ρ (i 0)) (i 1) : ℝ) : EReal))
    (hw : ∀ i, wd i = ((p.Wd (lo (i 0)) (i 1) : ℝ) : EReal)) (i : S256x1536.Idx) :
    k0_pay8 (F := Ideal) u wd i = ((ds p (ρ (i 0)) (lo (i 1)) : ℝ) : EReal) := by
  pointwise [k0_pay8]
  simp only [pay6 hu, hw, ← EReal.coe_mul, sum_coe]
  rfl

/-- The gate's argument, as it is read. -/
theorem pay9 (i : S256x1536.Idx) : k0_pay9 (F := Ideal) a' i = a' i := by
  pointwise [k0_pay9]

/-- What the gate multiplies, as it is read. -/
theorem pay10 (i : S256x1536.Idx) : k0_pay10 (F := Ideal) b i = b i := by
  pointwise [k0_pay10]

/-- The logistic function of the gate's argument. -/
theorem pay11 (ha : ∀ i, a i = ((aa p (ρ (i 0)) (lo (i 1)) : ℝ) : EReal)) (i : S256x1536.Idx) :
    k0_pay11 (F := Ideal) a i = ((sg (aa p (ρ (i 0)) (lo (i 1))) : ℝ) : EReal) := by
  pointwise [k0_pay11]
  simp only [ha, zero_sub, ← EReal.coe_neg, exp_real, ← EReal.coe_one, ← EReal.coe_add]
  exact div_coe _ (one_add_exp_ne _)

/-- The gate's cotangent. -/
theorem pay12 (hs : ∀ i, s i = ((ds p (ρ (i 0)) (lo (i 1)) : ℝ) : EReal))
    (ha : ∀ i, a i = ((aa p (ρ (i 0)) (lo (i 1)) : ℝ) : EReal))
    (hb : ∀ i, b i = ((bb p (ρ (i 0)) (lo (i 1)) : ℝ) : EReal)) (i : S256x1536.Idx) :
    k0_pay12 (F := Ideal) s a b i = ((da p (ρ (i 0)) (lo (i 1)) : ℝ) : EReal) := by
  pointwise [k0_pay12]
  simp only [pay11 ha, hs, ha, hb, ← EReal.coe_one, ← EReal.coe_sub, ← EReal.coe_mul, ← EReal.coe_add]
  rfl

/-- The second branch's cotangent. -/
theorem pay13 (hs : ∀ i, s i = ((ds p (ρ (i 0)) (lo (i 1)) : ℝ) : EReal))
    (ha : ∀ i, a i = ((aa p (ρ (i 0)) (lo (i 1)) : ℝ) : EReal)) (i : S256x1536.Idx) :
    k0_pay13 (F := Ideal) s a i = ((db p (ρ (i 0)) (lo (i 1)) : ℝ) : EReal) := by
  pointwise [k0_pay13]
  simp only [pay11 ha, hs, ha, ← EReal.coe_mul]
  rfl

/-- The first chunk's part of the norm's cotangent. -/
def dhLo (p : Args) (r : Fin 4096) (j : Fin 1024) : ℝ :=
  (∑ k, da p r (lo k) * p.Wg j (lo k)) + ∑ k, db p r (lo k) * p.Wu j (lo k)

theorem pay14 (hs : ∀ i, s i = ((ds p (ρ (i 0)) (lo (i 1)) : ℝ) : EReal))
    (ha : ∀ i, a i = ((aa p (ρ (i 0)) (lo (i 1)) : ℝ) : EReal))
    (hb : ∀ i, b i = ((bb p (ρ (i 0)) (lo (i 1)) : ℝ) : EReal))
    (hg : ∀ i, wg i = ((p.Wg (i 1) (lo (i 0)) : ℝ) : EReal))
    (hu : ∀ i, wu i = ((p.Wu (i 1) (lo (i 0)) : ℝ) : EReal)) (i : S256x1024.Idx) :
    k0_pay14 (F := Ideal) k0_pay7 s a b wg wu i = ((dhLo p (ρ (i 0)) (i 1) : ℝ) : EReal) := by
  pointwise [k0_pay14, k0_pay7]
  simp only [pay12 hs ha hb, pay13 hs ha, hg, hu, ← EReal.coe_mul, sum_coe, ← EReal.coe_add]
  rfl

end Lo

/-- The norm's cotangent is its two chunks' parts. -/
theorem dhLo_add (p : Args) (r : Fin 4096) (j : Fin 1024) :
    dhLo p r j + (∑ k, da p r (hi k) * p.Wg j (hi k)) + ∑ k, db p r (hi k) * p.Wu j (hi k) = dh p r j := by
  unfold dh dhLo
  rw [sum_chunks (fun k => da p r k * p.Wg j k), sum_chunks (fun k => db p r k * p.Wu j k)]
  ring

/-! ## The second chunk of the hidden width -/

section Hi

variable {h : FVec Ideal S256x1024 .bf16} {wd wg wu : FVec Ideal S1280x1024 .bf16} {s a b : FVec Ideal S256x1280 .f32}
  {a' : FVec Ideal S256x1280 .bf16} {e xn : FVec Ideal S256x1024 .f32}

/-- The gated product's cotangent. -/
theorem pay15 (hu : ∀ i, h i = ((1 / 2 * p.U (ρ (i 0)) (i 1) : ℝ) : EReal))
    (hw : ∀ i, wd i = ((p.Wd (hi (i 0)) (i 1) : ℝ) : EReal)) (i : S256x1280.Idx) :
    k0_pay15 (F := Ideal) h wd i = ((ds p (ρ (i 0)) (hi (i 1)) : ℝ) : EReal) := by
  pointwise [k0_pay15]
  simp only [hu, hw, ← EReal.coe_mul, sum_coe]
  rfl

/-- The gate's argument, as it is read. -/
theorem pay16 (i : S256x1280.Idx) : k0_pay16 (F := Ideal) a' i = a' i := by
  pointwise [k0_pay16]

/-- What the gate multiplies, as it is read. -/
theorem pay17 (i : S256x1280.Idx) : k0_pay17 (F := Ideal) a' i = a' i := by
  pointwise [k0_pay17]

/-- The logistic function of the gate's argument. -/
theorem pay18 (ha : ∀ i, a i = ((aa p (ρ (i 0)) (hi (i 1)) : ℝ) : EReal)) (i : S256x1280.Idx) :
    k0_pay18 (F := Ideal) a i = ((sg (aa p (ρ (i 0)) (hi (i 1))) : ℝ) : EReal) := by
  pointwise [k0_pay18]
  simp only [ha, zero_sub, ← EReal.coe_neg, exp_real, ← EReal.coe_one, ← EReal.coe_add]
  exact div_coe _ (one_add_exp_ne _)

/-- The gate's cotangent. -/
theorem pay19 (hs : ∀ i, s i = ((ds p (ρ (i 0)) (hi (i 1)) : ℝ) : EReal))
    (ha : ∀ i, a i = ((aa p (ρ (i 0)) (hi (i 1)) : ℝ) : EReal))
    (hb : ∀ i, b i = ((bb p (ρ (i 0)) (hi (i 1)) : ℝ) : EReal)) (i : S256x1280.Idx) :
    k0_pay19 (F := Ideal) s a b i = ((da p (ρ (i 0)) (hi (i 1)) : ℝ) : EReal) := by
  pointwise [k0_pay19]
  simp only [pay18 ha, hs, ha, hb, ← EReal.coe_one, ← EReal.coe_sub, ← EReal.coe_mul, ← EReal.coe_add]
  rfl

/-- The second branch's cotangent. -/
theorem pay20 (hs : ∀ i, s i = ((ds p (ρ (i 0)) (hi (i 1)) : ℝ) : EReal))
    (ha : ∀ i, a i = ((aa p (ρ (i 0)) (hi (i 1)) : ℝ) : EReal)) (i : S256x1280.Idx) :
    k0_pay20 (F := Ideal) s a i = ((db p (ρ (i 0)) (hi (i 1)) : ℝ) : EReal) := by
  pointwise [k0_pay20]
  simp only [pay18 ha, hs, ha, ← EReal.coe_mul]
  rfl

variable (he : ∀ i, e i = ((dhLo p (ρ (i 0)) (i 1) : ℝ) : EReal))
  (hs : ∀ i, s i = ((ds p (ρ (i 0)) (hi (i 1)) : ℝ) : EReal))
  (ha : ∀ i, a i = ((aa p (ρ (i 0)) (hi (i 1)) : ℝ) : EReal))
  (hb : ∀ i, b i = ((bb p (ρ (i 0)) (hi (i 1)) : ℝ) : EReal))
  (hg : ∀ i, wg i = ((p.Wg (i 1) (hi (i 0)) : ℝ) : EReal))
  (hu : ∀ i, wu i = ((p.Wu (i 1) (hi (i 0)) : ℝ) : EReal))
include he hs ha hb hg hu

/-- The norm's cotangent: the second chunk's part added to the first's. -/
theorem pay21 (i : S256x1024.Idx) : k0_pay21 (F := Ideal) e s a b wg wu i = ((dh p (ρ (i 0)) (i 1) : ℝ) : EReal) := by
  pointwise [k0_pay21]
  simp only [pay19 hs ha hb, pay20 hs ha, he, hg, hu, ← EReal.coe_mul, sum_coe, ← EReal.coe_add]
  exact congrArg _ (dhLo_add p (ρ (i 0)) (i 1))

/-- The block's part of the gain's cotangent, added to what the earlier blocks left. -/
theorem pay22 (hn : ∀ i, xn i = ((xh p (ρ (i 0)) (i 1) : ℝ) : EReal)) (o : FVec Ideal S1x1024 .f32) (i : S1x1024.Idx) :
    k0_pay22 (F := Ideal) xn e s a b wg wu o i = o i + ((∑ r, dh p (ρ r) (i 1) * xh p (ρ r) (i 1) : ℝ) : EReal) := by
  pointwise [k0_pay22]
  simp only [pay21 he hs ha hb hg hu, hn, ← EReal.coe_mul, sum_coe]
  rfl

/-- The norm's cotangent scaled by the gain. -/
theorem pay23 (hgain : ∀ i, g i = ((p.G (i 1) : ℝ) : EReal)) (i : S256x1024.Idx) :
    k0_pay23 (F := Ideal) g e s a b wg wu i = ((dh p (ρ (i 0)) (i 1) * p.G (i 1) : ℝ) : EReal) := by
  pointwise [k0_pay23]
  rw [pay21 he hs ha hb hg hu, hgain, ← EReal.coe_mul]
  rfl

/-- The same against the normalized row. -/
theorem pay24 (hgain : ∀ i, g i = ((p.G (i 1) : ℝ) : EReal))
    (hn : ∀ i, xn i = ((xh p (ρ (i 0)) (i 1) : ℝ) : EReal)) (i : S256x1024.Idx) :
    k0_pay24 (F := Ideal) g xn e s a b wg wu i
      = ((dh p (ρ (i 0)) (i 1) * p.G (i 1) * xh p (ρ (i 0)) (i 1) : ℝ) : EReal) := by
  pointwise [k0_pay24]
  rw [pay23 he hs ha hb hg hu hgain, hn, ← EReal.coe_mul]

end Hi

/-- The input's cotangent. -/
theorem pay1 {r : FVec Ideal S256x1 .f32} {xn d q : FVec Ideal S256x1024 .f32}
    (hr : ∀ i, r i = ((rr p (ρ (i 0)) : ℝ) : EReal))
    (hn : ∀ i, xn i = ((xh p (ρ (i 0)) (i 1) : ℝ) : EReal))
    (hu : ∀ i, u i = ((p.U (ρ (i 0)) (i 1) : ℝ) : EReal))
    (hd : ∀ i, d i = ((dh p (ρ (i 0)) (i 1) * p.G (i 1) : ℝ) : EReal))
    (hq : ∀ i, q i = ((dh p (ρ (i 0)) (i 1) * p.G (i 1) * xh p (ρ (i 0)) (i 1) : ℝ) : EReal)) (i : S256x1024.Idx) :
    k0_pay1 (F := Ideal) r xn u d q i = ((dx p (ρ (i 0)) (i 1) : ℝ) : EReal) := by
  pointwise [k0_pay1]
  simp only [hr, hn, hu, hd, hq, ofBits_1024, sum_coe, div_coe _ (show (1024 : ℝ) ≠ 0 by norm_num), ← EReal.coe_mul,
    ← EReal.coe_sub, ← EReal.coe_add]
  rfl

end Cert.Proof.KernelBlock

end
-- ==== Proof.KernelPoints.lean ====
/- What one grid point of the kernel leaves in its output windows and in the three held weights, as the body's payloads
   over the point's blocks. The first point copies the weights in; every later one finds them there. So every point's
   outputs are the same function of its blocks and of the weights the host prepared; the gain's cotangent alone also
   takes what the point before left. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Proof.KernelPoints

open Idealize.ShloMosaic Idealize.SL.Sem Cert.KernelIdeal Cert.KernelIdeal.Gen

/-- One piece over the whole of an array is the array. -/
theorem canon_full (w : FVec Ideal S2816x1024 .bf16) :
    View.canon [(⟨Rect.whole S2816x1024, w⟩ : View.Piece (Elt Ideal) S2816x1024 .bf16)] = w :=
  View.canon_unit_zero (Val := Elt Ideal) (e := .bf16) rfl _ w

/-- A load from an array written whole is that load from what was written. -/
theorem readCov_full {κ : Kind} {sp : Space} (v : View sig κ sp S2816x1024 .bf16) (w : FVec Ideal S2816x1024 .bf16)
    (r : Rect S2816x1024) :
    v.readCov [(⟨Rect.whole S2816x1024, w⟩ : View.Piece (Elt Ideal) S2816x1024 .bf16)] r.toLoadRect
      = View.ld (Val := Elt Ideal) (e' := .bf16) w r := by
  rw [View.readCov_eq_canon', canon_full]

/-! ## The body over its blocks -/

/-- The first chunk of a held weight. -/
abbrev wLo (w : FVec Ideal S2816x1024 .bf16) : FVec Ideal S1536x1024 .bf16 :=
  View.ld (Val := Elt Ideal) (e' := .bf16) w (Rect.unit (s := S2816x1024) ![0, 0] ![1536, 1024] inb_S2816x1024_S1536x1024_0_0)

/-- The second chunk of a held weight. -/
abbrev wHi (w : FVec Ideal S2816x1024 .bf16) : FVec Ideal S1280x1024 .bf16 :=
  View.ld (Val := Elt Ideal) (e' := .bf16) w (Rect.unit (s := S2816x1024) ![1536, 0] ![1280, 1024] inb_S2816x1024_S1280x1024_1536_0)

/-- The first chunk of a block of the hidden width. -/
abbrev cLo (a : FVec Ideal S256x2816 .bf16) : FVec Ideal S256x1536 .bf16 :=
  View.ld (Val := Elt Ideal) (e' := .bf16) a (Rect.unit (s := S256x2816) ![0, 0] ![256, 1536] inb_S256x2816_S256x1536_0_0)

/-- The second chunk of a block of the hidden width. -/
abbrev cHi (a : FVec Ideal S256x2816 .bf16) : FVec Ideal S256x1280 .bf16 :=
  View.ld (Val := Elt Ideal) (e' := .bf16) a (Rect.unit (s := S256x2816) ![0, 1536] ![256, 1280] inb_S256x2816_S256x1280_0_1536)

section Body

variable (u x : FVec Ideal S256x1024 .f32) (g : FVec Ideal S1x1024 .f32) (a b : FVec Ideal S256x2816 .bf16)
  (wg wu wd : FVec Ideal S2816x1024 .bf16)

/-- The norm's cotangent after the first chunk. -/
abbrev first : FVec Ideal S256x1024 .f32 :=
  k0_pay14 k0_pay7 (k0_pay8 u (wLo wd)) (k0_pay9 (cLo a)) (k0_pay10 (cLo b)) (wLo wg) (wLo wu)

/-- The second chunk's gated-product cotangent. -/
abbrev sHi : FVec Ideal S256x1280 .f32 := k0_pay15 (k0_pay6 u) (wHi wd)

/-- The input's cotangent block. -/
def bodyDx : FVec Ideal S256x1024 .f32 :=
  k0_pay1 (k0_pay3 x) (k0_pay4 x) u
    (k0_pay23 g (first u a b wg wu wd) (sHi u wd) (k0_pay16 (cHi a)) (k0_pay17 (cHi b)) (wHi wg) (wHi wu))
    (k0_pay24 g (k0_pay4 x) (first u a b wg wu wd) (sHi u wd) (k0_pay16 (cHi a)) (k0_pay17 (cHi b)) (wHi wg) (wHi wu))

/-- The gain's cotangent after a block. -/
def bodyDg (o : FVec Ideal S1x1024 .f32) : FVec Ideal S1x1024 .f32 :=
  k0_pay22 (k0_pay4 x) (first u a b wg wu wd) (sHi u wd) (k0_pay16 (cHi a)) (k0_pay17 (cHi b)) (wHi wg) (wHi wu) o

/-- The two branches' cotangents, stored a chunk at a time. -/
def bodyDab : FVec Ideal S256x5632 .bf16 :=
  View.canon (Val := Elt Ideal) (e := .bf16)
    [⟨Rect.unit (s := S256x5632) ![0, 4352] ![256, 1280] inb_S256x5632_S256x1280_0_4352,
        k0_pay20 (F := Ideal) (sHi u wd) (k0_pay16 (cHi a))⟩,
      ⟨Rect.unit (s := S256x5632) ![0, 1536] ![256, 1280] inb_S256x5632_S256x1280_0_1536,
        k0_pay19 (F := Ideal) (sHi u wd) (k0_pay16 (cHi a)) (k0_pay17 (cHi b))⟩,
      ⟨Rect.unit (s := S256x5632) ![0, 2816] ![256, 1536] inb_S256x5632_S256x1536_0_2816,
        k0_pay13 (F := Ideal) (k0_pay8 u (wLo wd)) (k0_pay9 (cLo a))⟩,
      ⟨Rect.unit (s := S256x5632) ![0, 0] ![256, 1536] inb_S256x5632_S256x1536_0_0,
        k0_pay12 (F := Ideal) (k0_pay8 u (wLo wd)) (k0_pay9 (cLo a)) (k0_pay10 (cLo b))⟩]

/-- The norm's output and the halved cotangent, stored one after the other. -/
def bodyHd : FVec Ideal S256x2048 .bf16 :=
  View.canon (Val := Elt Ideal) (e := .bf16)
    [⟨Rect.unit (s := S256x2048) ![0, 1024] ![256, 1024] inb_S256x2048_S256x1024_0_1024, k0_pay6 (F := Ideal) u⟩,
      ⟨Rect.unit (s := S256x2048) ![0, 0] ![256, 1024] inb_S256x2048_S256x1024_0_0, k0_pay5 (F := Ideal) x g⟩]

end Body

variable (m : (ℓ : Loc nD τ sig) → Buf (Elt Ideal) ℓ) (c : Dev nD)

/-! ## The held weights -/

/-- Every point leaves the host's three prepared weights in the scratches. -/
theorem held : ∀ (n : ℕ) (hn : n < cfg0.N),
    (outsAt0 m c n hn).2.2.2.2.1 = V m c main_v17 ∧ (outsAt0 m c n hn).2.2.2.2.2.1 = V m c main_v19
      ∧ (outsAt0 m c n hn).2.2.2.2.2.2 = V m c main_v20 := by
  intro n
  induction n with
  | zero =>
    intro hn
    rw [outsAt0_A m c ⟨0, hn⟩ rfl]
    dsimp only
    refine ⟨funext fun y => ?_, funext fun y => ?_, funext fun y => ?_⟩
    all_goals
      frame_out
      exact congrFun (canon_full _) y
  | succ n ih =>
    intro hn
    have hN := lt_of_lt_of_eq hn (show cfg0.N = 16 from N_0)
    rw [outsAt0_B m c ⟨n + 1, hn⟩ (by show ¬(n + 1) % 16 = 0; omega)]
    exact ih (Nat.lt_of_succ_lt hn)

variable (t : Fin cfg0.N)

/-- The input's cotangent block a point leaves. -/
theorem out5 : (outsAt0 m c t.val t.isLt).1
    = bodyDx (iblk m c 0 t) (iblk m c 1 t) (iblk m c 2 t) (iblk m c 3 t) (iblk m c 4 t) (V m c main_v17) (V m c main_v19)
        (V m c main_v20) := by
  funext y
  by_cases h0 : t.val % 16 = 0
  · rw [outsAt0_A m c t h0]
    dsimp only
    frame_out
    simp only [readCov_full]
    rfl
  · rw [outsAt0_B m c t h0]
    dsimp only
    frame_out
    simp only [read_unread_whole, (held m c _ _).1, (held m c _ _).2.1, (held m c _ _).2.2]
    rfl

/-- The gain's cotangent the first point leaves. -/
theorem out8_first (h0 : t.val % 16 = 0) : (outsAt0 m c t.val t.isLt).2.2.2.1
    = bodyDg (iblk m c 0 t) (iblk m c 1 t) (iblk m c 3 t) (iblk m c 4 t) (V m c main_v17) (V m c main_v19)
        (V m c main_v20) k0_pay2 := by
  funext y
  rw [outsAt0_A m c t h0]
  dsimp only
  frame_out
  simp only [readCov_full]
  rfl

/-- The gain's cotangent a later point leaves. -/
theorem out8_next (h0 : ¬t.val % 16 = 0) : (outsAt0 m c t.val t.isLt).2.2.2.1
    = bodyDg (iblk m c 0 t) (iblk m c 1 t) (iblk m c 3 t) (iblk m c 4 t) (V m c main_v17) (V m c main_v19)
        (V m c main_v20) (outsAt0 m c (t.val - 1) (Nat.lt_of_le_of_lt (Nat.sub_le _ _) t.isLt)).2.2.2.1 := by
  funext y
  rw [outsAt0_B m c t h0]
  dsimp only
  frame_out
  simp only [read_unread_whole, (held m c _ _).1, (held m c _ _).2.1, (held m c _ _).2.2]
  rfl

/-- The two branches' cotangents a point leaves. -/
theorem out6 : (outsAt0 m c t.val t.isLt).2.1
    = bodyDab (iblk m c 0 t) (iblk m c 3 t) (iblk m c 4 t) (V m c main_v20) := by
  funext y
  by_cases h0 : t.val % 16 = 0
  · rw [outsAt0_A m c t h0]
    dsimp only
    frame_out
    simp only [readCov_full]
    rfl
  · rw [outsAt0_B m c t h0]
    dsimp only
    frame_out
    simp only [read_unread_whole, (held m c _ _).1, (held m c _ _).2.1, (held m c _ _).2.2]

/-- The norm's output and the halved cotangent a point leaves. -/
theorem out7 : (outsAt0 m c t.val t.isLt).2.2.1 = bodyHd (iblk m c 0 t) (iblk m c 1 t) (iblk m c 2 t) := by
  funext y
  by_cases h0 : t.val % 16 = 0
  · rw [outsAt0_A m c t h0]
    dsimp only
    frame_out
  · rw [outsAt0_B m c t h0]
    dsimp only
    frame_out

end Cert.Proof.KernelPoints

end
-- ==== Proof.KernelArrays.lean ====
/- The kernel's four result arrays after its run, at finite arguments: each is the real array that Model.lean names. -/
module

public import proofs.«01_k».proof.Proof.HostValue
public import proofs.«01_k».proof.Proof.KernelBlock
public import proofs.«01_k».proof.Proof.KernelPoints

@[expose] public section

set_option maxRecDepth 16384

noncomputable section

namespace Cert.Proof.KernelArrays

open Idealize.ShloMosaic Idealize.SL.Sem Cert.KernelIdeal Cert.KernelIdeal.Gen Cert.Proof.Model Cert.Proof.HostValue
  Cert.Proof.KernelPoints Cert.Proof.KernelBlock

/-- Row `r` of point `t`'s block, as a row of the arrays. -/
def row (t : Fin cfg0.N) (r : Fin 256) : Fin 4096 :=
  ⟨256 * t.val + r.val, by have h := lt_of_lt_of_eq t.isLt (show cfg0.N = 16 from N_0); omega⟩

/-! ## Where the blocks lie -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

variable {p : Args} {m : (ℓ : Loc nD τ sig) → Buf (Elt Ideal) ℓ} {c : Dev nD}

/-! ## A chunk read at an index -/

theorem wLo_apply (w : FVec Ideal S2816x1024 .bf16) (i : S1536x1024.Idx) : wLo w i = w (ix2 (lo (i 0)) (i 1)) := by
  refine congrArg w (funext fun a => Fin.ext ?_)
  fin_cases a <;> simp [lo, ix2] <;> omega

theorem cLo_apply (w : FVec Ideal S256x2816 .bf16) (i : S256x1536.Idx) : cLo w i = w (ix2 (i 0) (lo (i 1))) := by
  refine congrArg w (funext fun a => Fin.ext ?_)
  fin_cases a <;> simp [lo, ix2] <;> omega

theorem wHi_apply (w : FVec Ideal S2816x1024 .bf16) (i : S1280x1024.Idx) : wHi w i = w (ix2 (hi (i 0)) (i 1)) := by
  refine congrArg w (funext fun a => Fin.ext ?_)
  fin_cases a <;> simp [hi, ix2] <;> omega

theorem cHi_apply (w : FVec Ideal S256x2816 .bf16) (i : S256x1280.Idx) : cHi w i = w (ix2 (i 0) (hi (i 1))) := by
  refine congrArg w (funext fun a => Fin.ext ?_)
  fin_cases a <;> simp [hi, ix2] <;> omega

/-! ## The two halves of a side by side array -/

theorem row_congr (t : Fin cfg0.N) {a b : Fin 256} (h : a.val = b.val) : row t a = row t b := congrArg _ (Fin.ext h)

section Halves

variable (p : Args) {r r' : Fin 4096} (e : r = r')
include e

theorem dab_aLo {j : Fin 5632} {k : Fin 1536} (h : j.val = k.val) : dab p r j = da p r' (lo k) := by
  subst e
  rw [dab, dif_pos (by omega)]
  exact congrArg _ (Fin.ext h)

theorem dab_aHi {j : Fin 5632} {k : Fin 1280} (h : j.val = 1536 + k.val) : dab p r j = da p r' (hi k) := by
  subst e
  rw [dab, dif_pos (by omega)]
  exact congrArg _ (Fin.ext h)

theorem dab_bLo {j : Fin 5632} {k : Fin 1536} (h : j.val = 2816 + k.val) : dab p r j = db p r' (lo k) := by
  subst e
  rw [dab, dif_neg (by omega)]
  exact congrArg _ (Fin.ext (show j.val - 2816 = k.val by omega))

theorem dab_bHi {j : Fin 5632} {k : Fin 1280} (h : j.val = 4352 + k.val) : dab p r j = db p r' (hi k) := by
  subst e
  rw [dab, dif_neg (by omega)]
  exact congrArg _ (Fin.ext (show j.val - 2816 = 1536 + k.val by omega))

theorem hd_h {j : Fin 2048} {k : Fin 1024} (h : j.val = k.val) : hd p r j = hh p r' k := by
  subst e
  rw [hd, dif_pos (by omega)]
  exact congrArg _ (Fin.ext h)

theorem hd_d {j : Fin 2048} {k : Fin 1024} (h : j.val = 1024 + k.val) : hd p r j = 1 / 2 * p.U r' k := by
  subst e
  rw [hd, dif_neg (by omega)]
  exact congrArg (fun k => 1 / 2 * p.U r k) (Fin.ext (show j.val - 1024 = k.val by omega))

end Halves

/-- The four pieces cover the block of the branches' cotangents. -/
theorem dab_cover (q0 q1 : FVec Ideal S256x1280 .bf16) (q2 q3 : FVec Ideal S256x1536 .bf16) (i : S256x5632.Idx) :
    ∃ q ∈ ([⟨Rect.unit ![0, 4352] ![256, 1280] inb_S256x5632_S256x1280_0_4352, q0⟩,
        ⟨Rect.unit ![0, 1536] ![256, 1280] inb_S256x5632_S256x1280_0_1536, q1⟩,
        ⟨Rect.unit ![0, 2816] ![256, 1536] inb_S256x5632_S256x1536_0_2816, q2⟩,
        ⟨Rect.unit ![0, 0] ![256, 1536] inb_S256x5632_S256x1536_0_0, q3⟩] :
          List (View.Piece (Elt Ideal) S256x5632 .bf16)), i ∈ q.1.set := by
  have b0 : (i 0).val < 256 := (i 0).isLt
  have b1 : (i 1).val < 5632 := (i 1).isLt
  rcases lt_or_ge (i 1).val 1536 with h | h
  · refine ⟨_, .tail _ (.tail _ (.tail _ (.head _))), (Rect.mem_set_unit (inb := inb_S256x5632_S256x1536_0_0)).2 fun a => ?_⟩
    fin_cases a <;> simp <;> omega
  rcases lt_or_ge (i 1).val 2816 with h' | h'
  · refine ⟨_, .tail _ (.head _), (Rect.mem_set_unit (inb := inb_S256x5632_S256x1280_0_1536)).2 fun a => ?_⟩
    fin_cases a <;> simp <;> omega
  rcases lt_or_ge (i 1).val 4352 with h'' | h''
  · refine ⟨_, .tail _ (.tail _ (.head _)), (Rect.mem_set_unit (inb := inb_S256x5632_S256x1536_0_2816)).2 fun a => ?_⟩
    fin_cases a <;> simp <;> omega
  · refine ⟨_, .head _, (Rect.mem_set_unit (inb := inb_S256x5632_S256x1280_0_4352)).2 fun a => ?_⟩
    fin_cases a <;> simp <;> omega

section Blocks

variable (t : Fin cfg0.N)

theorem blk0 (i : S256x1024.Idx) :
    (iblk m c 0 t : FVec Ideal S256x1024 .f32) i = (V m c main_arg0 : FVec Ideal S4096x1024 .f32) (ix2 (row t (i 0)) (i 1)) := by
  unfold row; blk_ext [iblk, idx0 t]

theorem blk1 (i : S256x1024.Idx) :
    (iblk m c 1 t : FVec Ideal S256x1024 .f32) i = (V m c main_arg1 : FVec Ideal S4096x1024 .f32) (ix2 (row t (i 0)) (i 1)) := by
  unfold row; blk_ext [iblk, idx1 t]

theorem blk2 (i : S1x1024.Idx) :
    (iblk m c 2 t : FVec Ideal S1x1024 .f32) i = (V m c main_arg2 : FVec Ideal S1x1024 .f32) i := by
  blk_ext [iblk, idx2 t]

theorem blk3 (i : S256x2816.Idx) :
    (iblk m c 3 t : FVec Ideal S256x2816 .bf16) i = (V m c main_v13 : FVec Ideal S4096x2816 .bf16) (ix2 (row t (i 0)) (i 1)) := by
  unfold row; blk_ext [iblk, idx3 t]

theorem blk4 (i : S256x2816.Idx) :
    (iblk m c 4 t : FVec Ideal S256x2816 .bf16) i = (V m c main_v15 : FVec Ideal S4096x2816 .bf16) (ix2 (row t (i 0)) (i 1)) := by
  unfold row; blk_ext [iblk, idx4 t]

variable (L : Holds m c p)
include L

theorem u_at (i : S256x1024.Idx) : (iblk m c 0 t : FVec Ideal S256x1024 .f32) i = ((p.U (row t (i 0)) (i 1) : ℝ) : EReal) := by
  rw [blk0, V_main_arg0]; exact L.h0 _

theorem x_at (i : S256x1024.Idx) : (iblk m c 1 t : FVec Ideal S256x1024 .f32) i = ((p.X (row t (i 0)) (i 1) : ℝ) : EReal) := by
  rw [blk1, V_main_arg1]; exact L.h1 _

theorem g_at (i : S1x1024.Idx) : (iblk m c 2 t : FVec Ideal S1x1024 .f32) i = ((p.G (i 1) : ℝ) : EReal) := by
  rw [blk2, V_main_arg2]; exact L.h2 _

/-! ## The chunks of the saved values and of the weights -/

theorem aLo_at (i : S256x1536.Idx) :
    k0_pay9 (F := Ideal) (cLo (iblk m c 3 t)) i = ((aa p (row t (i 0)) (lo (i 1)) : ℝ) : EReal) :=
  (KernelBlock.pay9 i).trans ((cLo_apply _ i).trans ((blk3 t _).trans (a_at L _)))

theorem bLo_at (i : S256x1536.Idx) :
    k0_pay10 (F := Ideal) (cLo (iblk m c 4 t)) i = ((bb p (row t (i 0)) (lo (i 1)) : ℝ) : EReal) :=
  (KernelBlock.pay10 i).trans ((cLo_apply _ i).trans ((blk4 t _).trans (b_at L _)))

theorem aHi_at (i : S256x1280.Idx) :
    k0_pay16 (F := Ideal) (cHi (iblk m c 3 t)) i = ((aa p (row t (i 0)) (hi (i 1)) : ℝ) : EReal) :=
  (KernelBlock.pay16 i).trans ((cHi_apply _ i).trans ((blk3 t _).trans (a_at L _)))

theorem bHi_at (i : S256x1280.Idx) :
    k0_pay17 (F := Ideal) (cHi (iblk m c 4 t)) i = ((bb p (row t (i 0)) (hi (i 1)) : ℝ) : EReal) :=
  (KernelBlock.pay17 i).trans ((cHi_apply _ i).trans ((blk4 t _).trans (b_at L _)))

omit t
theorem wgLo_at (i : S1536x1024.Idx) : wLo (V m c main_v17) i = ((p.Wg (i 1) (lo (i 0)) : ℝ) : EReal) :=
  (wLo_apply _ i).trans (wg_at L _)

theorem wgHi_at (i : S1280x1024.Idx) : wHi (V m c main_v17) i = ((p.Wg (i 1) (hi (i 0)) : ℝ) : EReal) :=
  (wHi_apply _ i).trans (wg_at L _)

theorem wuLo_at (i : S1536x1024.Idx) : wLo (V m c main_v19) i = ((p.Wu (i 1) (lo (i 0)) : ℝ) : EReal) :=
  (wLo_apply _ i).trans (wu_at L _)

theorem wuHi_at (i : S1280x1024.Idx) : wHi (V m c main_v19) i = ((p.Wu (i 1) (hi (i 0)) : ℝ) : EReal) :=
  (wHi_apply _ i).trans (wu_at L _)

theorem wdLo_at (i : S1536x1024.Idx) : wLo (V m c main_v20) i = ((p.Wd (lo (i 0)) (i 1) : ℝ) : EReal) :=
  (wLo_apply _ i).trans (wd_at L _)

theorem wdHi_at (i : S1280x1024.Idx) : wHi (V m c main_v20) i = ((p.Wd (hi (i 0)) (i 1) : ℝ) : EReal) :=
  (wHi_apply _ i).trans (wd_at L _)

/-! ## The body at a point -/

theorem sLo_at (t : Fin cfg0.N) (i : S256x1536.Idx) :
    k0_pay8 (F := Ideal) (iblk m c 0 t) (wLo (V m c main_v20)) i = ((ds p (row t (i 0)) (lo (i 1)) : ℝ) : EReal) :=
  KernelBlock.pay8 (ρ := row t) (u_at t L) (wdLo_at L) i

theorem sHi_at (t : Fin cfg0.N) (i : S256x1280.Idx) :
    sHi (iblk m c 0 t) (V m c main_v20) i = ((ds p (row t (i 0)) (hi (i 1)) : ℝ) : EReal) :=
  KernelBlock.pay15 (ρ := row t) (KernelBlock.pay6 (ρ := row t) (u_at t L)) (wdHi_at L) i

theorem first_at (t : Fin cfg0.N) (i : S256x1024.Idx) :
    first (iblk m c 0 t) (iblk m c 3 t) (iblk m c 4 t) (V m c main_v17) (V m c main_v19) (V m c main_v20) i
      = ((dhLo p (row t (i 0)) (i 1) : ℝ) : EReal) :=
  KernelBlock.pay14 (ρ := row t) (sLo_at L t) (aLo_at t L) (bLo_at t L) (wgLo_at L) (wuLo_at L) i

/-- The input's cotangent block. -/
theorem dx_at (t : Fin cfg0.N) (i : S256x1024.Idx) :
    bodyDx (iblk m c 0 t) (iblk m c 1 t) (iblk m c 2 t) (iblk m c 3 t) (iblk m c 4 t) (V m c main_v17) (V m c main_v19)
        (V m c main_v20) i = ((dx p (row t (i 0)) (i 1) : ℝ) : EReal) :=
  KernelBlock.pay1 (ρ := row t) (KernelBlock.pay3 (ρ := row t) (x_at t L)) (KernelBlock.pay4 (ρ := row t) (x_at t L))
    (u_at t L)
    (KernelBlock.pay23 (ρ := row t) (first_at L t) (sHi_at L t) (aHi_at t L) (bHi_at t L) (wgHi_at L) (wuHi_at L)
      (g_at t L))
    (KernelBlock.pay24 (ρ := row t) (first_at L t) (sHi_at L t) (aHi_at t L) (bHi_at t L) (wgHi_at L) (wuHi_at L)
      (g_at t L) (KernelBlock.pay4 (ρ := row t) (x_at t L))) i

/-- The gain's cotangent after a point. -/
theorem dg_at (t : Fin cfg0.N) (o : FVec Ideal S1x1024 .f32) (i : S1x1024.Idx) :
    bodyDg (iblk m c 0 t) (iblk m c 1 t) (iblk m c 3 t) (iblk m c 4 t) (V m c main_v17) (V m c main_v19)
        (V m c main_v20) o i = o i + ((∑ r, dh p (row t r) (i 1) * xh p (row t r) (i 1) : ℝ) : EReal) :=
  KernelBlock.pay22 (ρ := row t) (first_at L t) (sHi_at L t) (aHi_at t L) (bHi_at t L) (wgHi_at L) (wuHi_at L)
    (KernelBlock.pay4 (ρ := row t) (x_at t L)) o i

/-- The two branches' cotangents, side by side. -/
theorem dab_at (t : Fin cfg0.N) (i : S256x5632.Idx) :
    bodyDab (iblk m c 0 t) (iblk m c 3 t) (iblk m c 4 t) (V m c main_v20) i
      = ((dab p (row t (i 0)) (i 1) : ℝ) : EReal) := by
  unfold bodyDab
  canon_tiles x h using dab_cover _ _ _ _ i
  · exact (KernelBlock.pay20 (ρ := row t) (sHi_at L t) (aHi_at t L) x).trans (congrArg _
      (dab_bHi p (row_congr t h0) h1).symm)
  · exact (KernelBlock.pay19 (ρ := row t) (sHi_at L t) (aHi_at t L) (bHi_at t L) x).trans (congrArg _
      (dab_aHi p (row_congr t h0) h1).symm)
  · exact (KernelBlock.pay13 (ρ := row t) (sLo_at L t) (aLo_at t L) x).trans (congrArg _
      (dab_bLo p (row_congr t h0) h1).symm)
  · exact (KernelBlock.pay12 (ρ := row t) (sLo_at L t) (aLo_at t L) (bLo_at t L) x).trans (congrArg _
      (dab_aLo p (row_congr t h0) h1).symm)

/-- The norm's output and the halved cotangent, side by side. -/
theorem hd_at (t : Fin cfg0.N) (i : S256x2048.Idx) :
    bodyHd (iblk m c 0 t) (iblk m c 1 t) (iblk m c 2 t) i = ((hd p (row t (i 0)) (i 1) : ℝ) : EReal) := by
  unfold bodyHd
  canon_tiles x h
  · exact (KernelBlock.pay6 (ρ := row t) (u_at t L) x).trans (congrArg _ (hd_d p (row_congr t h0) h1).symm)
  · exact (KernelBlock.pay5 (ρ := row t) (x_at t L) (g_at t L) x).trans (congrArg _ (hd_h p (row_congr t h0) h1).symm)

end Blocks

/-! ## The arrays -/

variable (L : Holds m c p)
include L

theorem arr5 : (dats m 0 c).arrAt 5 cfg0.N = fun i : S4096x1024.Idx => ((dx p (i 0) (i 1) : ℝ) : EReal) := by
  refine (dats m 0 c).arrAt_eq_of_covers 5 _ (by decide +kernel) fun t hf y => ?_
  blk_simp
  rw [after0_5, out5]
  refine (dx_at L t y).trans ?_
  have e : (win0_5.blk t).view.emb y = ix2 (row t (y 0)) (y 1) := by unfold row; blk_ext [idx5 t]
  rw [e]; rfl

theorem arr6 : (dats m 0 c).arrAt 6 cfg0.N = fun i : S4096x5632.Idx => ((dab p (i 0) (i 1) : ℝ) : EReal) := by
  refine (dats m 0 c).arrAt_eq_of_covers 6 _ (by decide +kernel) fun t hf y => ?_
  blk_simp
  rw [after0_6, out6]
  refine (dab_at L t y).trans ?_
  have e : (win0_6.blk t).view.emb y = ix2 (row t (y 0)) (y 1) := by unfold row; blk_ext [idx6 t]
  rw [e]; rfl

theorem arr7 : (dats m 0 c).arrAt 7 cfg0.N = fun i : S4096x2048.Idx => ((hd p (i 0) (i 1) : ℝ) : EReal) := by
  refine (dats m 0 c).arrAt_eq_of_covers 7 _ (by decide +kernel) fun t hf y => ?_
  blk_simp
  rw [after0_7, out7]
  refine (hd_at L t y).trans ?_
  have e : (win0_7.blk t).view.emb y = ix2 (row t (y 0)) (y 1) := by unfold row; blk_ext [idx7 t]
  rw [e]; rfl

/-- What one point adds to the gain's cotangent. -/
def term (p : Args) (j : Fin 1024) (n : ℕ) : ℝ :=
  if h : n < cfg0.N then ∑ r, dh p (row ⟨n, h⟩ r) j * xh p (row ⟨n, h⟩ r) j else 0

omit L in
theorem term_pos (j : Fin 1024) {n : ℕ} (h : n < cfg0.N) :
    term p j n = ∑ r, dh p (row ⟨n, h⟩ r) j * xh p (row ⟨n, h⟩ r) j := dif_pos h

omit L in
/-- The points' rows are the rows of the arrays. -/
theorem sum_term (p : Args) (j : Fin 1024) : ∑ n ∈ Finset.range 16, term p j n = dg p j := by
  have h16 : cfg0.N = 16 := N_0
  rw [Finset.sum_range, dg, ← (finProdFinEquiv (m := 16) (n := 256)).sum_comp, Fintype.sum_prod_type]
  refine Finset.sum_congr rfl fun q _ => ?_
  rw [term_pos j (lt_of_lt_of_eq q.isLt h16.symm)]
  refine Finset.sum_congr rfl fun r _ => ?_
  have e : row ⟨q.val, lt_of_lt_of_eq q.isLt h16.symm⟩ r = finProdFinEquiv (m := 16) (n := 256) (q, r) :=
    Fin.ext (by simp [row, finProdFinEquiv]; omega)
  rw [e]

/-- After point `n` the gain's cotangent is the sum over the points up to it. -/
theorem dg_upto (n : ℕ) (h : n < cfg0.N) (i : S1x1024.Idx) :
    ((outsAt0 m c n h).2.2.2.1 : FVec Ideal S1x1024 .f32) i = ((∑ q ∈ Finset.range (n + 1), term p (i 1) q : ℝ) : EReal) := by
  induction n with
  | zero =>
    have e := congrFun (out8_first (m := m) (c := c) (t := ⟨0, h⟩) rfl) i
    refine e.trans ((dg_at L ⟨0, h⟩ _ i).trans ?_)
    rw [← term_pos (i 1) h, Finset.sum_range_one]
    pointwise [k0_pay2]
  | succ n ih =>
    have h16 : cfg0.N = 16 := N_0
    have e := congrFun (out8_next (m := m) (c := c) (t := ⟨n + 1, h⟩) (show ¬(n + 1) % 16 = 0 by omega)) i
    refine e.trans ((dg_at L ⟨n + 1, h⟩ _ i).trans ?_)
    rw [← term_pos (i 1) h, Finset.sum_range_succ, EReal.coe_add]
    exact congrArg (· + _) (ih (by omega))

theorem arr8 : (dats m 0 c).arrAt 8 cfg0.N = fun i : S1x1024.Idx => ((dg p (i 1) : ℝ) : EReal) := by
  refine (dats m 0 c).arrAt_eq_of_after_last 8 t0_15 (by decide +kernel) _ fun j => ?_
  blk_simp
  rw [after0_8]
  exact (dg_upto L 15 _ j).trans (congrArg _ (sum_term p (j 1)))

end Cert.Proof.KernelArrays

end
-- ==== Proof.Finite.lean ====
/- What the precondition says: every entry of every argument is a real number. -/
module

public import proofs.«01_k».proof.Defs
public import proofs.«01_k».proof.Proof.HostValue

@[expose] public section

noncomputable section

namespace Cert.Proof.Finite

open Idealize.ShloMosaic Idealize.SL.Sem Cert.Proof.Model

/-- The predicate's side conditions hold. -/
theorem facts : Cert.Pre_finite.Facts where
  bcast_S_S4096x1024 := by decide
  bcast_S_S1x1024 := by decide
  bcast_S_S1024x2816 := by decide
  bcast_S_S2816x1024 := by decide

/-- An extended real whose absolute value lies below the top is a real number. -/
theorem coe_of_abs_lt {x : EReal} (h : max x (-x) < ⊤) : x = ((x.toReal : ℝ) : EReal) := by
  refine (EReal.coe_toReal ?_ ?_).symm
  · rintro rfl; simp at h
  · rintro rfl; simp at h

/-- An entry at which the comparison with the top answers yes is a real number. -/
theorem entry {S : Shape} {b : (⟨0, ![]⟩ : Shape).BroadcastsInDim S ![]} {x : FVec Ideal S .f32}
    (h : cmpf .olt (Host.absf x) (broadcastInDim S ![] b (constant ⟨0, ![]⟩ .f32 0x7F800000#32)) = fun _ => 1#1) (i : S.Idx) :
    x i = ((EReal.toReal (x i) : ℝ) : EReal) := by
  have h' := congrFun h i
  apply coe_of_abs_lt
  pointwise at h'
  rw [ofBits_top] at h'
  by_contra hn
  have e : decide (FloatOps.absf (x i) < (⊤ : EReal)) = false := decide_eq_false hn
  rw [e] at h'
  exact absurd h' (by decide)

/-- An entry's real number read at an equal index. -/
theorem at_index {S : Shape} (x : FVec Ideal S .f32) {i j : S.Idx} (e : i = j) :
    ((EReal.toReal (x i) : ℝ) : EReal) = ((EReal.toReal (x j) : ℝ) : EReal) := by rw [e]

/-- The real numbers that the arguments of a memory are. -/
def args (m : (ℓ : Loc Cert.KernelIdeal.nD Cert.KernelIdeal.τ Cert.KernelIdeal.sig) → Buf (Elt Ideal) ℓ)
    (c : Dev Cert.KernelIdeal.nD) : Args where
  U r j := EReal.toReal (m ((c.tc : Thread Cert.KernelIdeal.nD Cert.KernelIdeal.τ).loc Cert.KernelIdeal.main_arg0) (ix2 r j))
  X r j := EReal.toReal (m ((c.tc : Thread Cert.KernelIdeal.nD Cert.KernelIdeal.τ).loc Cert.KernelIdeal.main_arg1) (ix2 r j))
  G j := EReal.toReal (m ((c.tc : Thread Cert.KernelIdeal.nD Cert.KernelIdeal.τ).loc Cert.KernelIdeal.main_arg2) (ix2 0 j))
  Wg j k := EReal.toReal (m ((c.tc : Thread Cert.KernelIdeal.nD Cert.KernelIdeal.τ).loc Cert.KernelIdeal.main_arg3) (ix2 j k))
  Wu j k := EReal.toReal (m ((c.tc : Thread Cert.KernelIdeal.nD Cert.KernelIdeal.τ).loc Cert.KernelIdeal.main_arg4) (ix2 j k))
  Wd k j := EReal.toReal (m ((c.tc : Thread Cert.KernelIdeal.nD Cert.KernelIdeal.τ).loc Cert.KernelIdeal.main_arg5) (ix2 k j))

/-- Arguments that meet the precondition are those real numbers. -/
theorem holds {m : (ℓ : Loc Cert.KernelIdeal.nD Cert.KernelIdeal.τ Cert.KernelIdeal.sig) → Buf (Elt Ideal) ℓ}
    (h : Cert.Pre_KernelIdeal_finite (hPre_finite := facts) m) (c : Dev Cert.KernelIdeal.nD) :
    HostValue.Holds m c (args m c) := by
  obtain ⟨h0, h1, h2, h3, h4, h5⟩ := h c
  refine ⟨fun i => (entry h0 i).trans ?_, fun i => (entry h1 i).trans ?_, fun i => (entry h2 i).trans ?_,
    fun i => (entry h3 i).trans ?_, fun i => (entry h4 i).trans ?_, fun i => (entry h5 i).trans ?_⟩
  · exact at_index _ (eq_ix2 i)
  · exact at_index _ (eq_ix2 i)
  · have e : i = ix2 0 (i 1) := (eq_ix2 i).trans (congrArg (fun a => ix2 a (i 1)) (Subsingleton.elim (α := Fin 1) _ _))
    exact at_index _ e
  · exact at_index _ (eq_ix2 i)
  · exact at_index _ (eq_ix2 i)
  · exact at_index _ (eq_ix2 i)

end Cert.Proof.Finite

end
-- ==== Proof.Forward.lean ====
/- The half step's forward pass over the extended reals: what every intermediate value of the forward calls is, entry by
   entry. The two programs do the same operations on an entry, so that nothing here needs a finite argument. -/
module

public import Idealize.ShloMosaic.PureOps.Ideal.Laws
public import Idealize.ShloMosaic.Lib.IdealHost

@[expose] public section

noncomputable section

namespace Cert.Proof.Forward

open Idealize.ShloMosaic
open scoped BigOperators

/-- The half step's arguments: its input, the norm's gain and the three weights of the gate. -/
structure Args where
  X : Fin 4096 → Fin 1024 → EReal
  G : Fin 1024 → EReal
  Wg : Fin 1024 → Fin 2816 → EReal
  Wu : Fin 1024 → Fin 2816 → EReal
  Wd : Fin 2816 → Fin 1024 → EReal

variable (p : Args)

/-- The norm's output. -/
def hh (r : Fin 4096) (j : Fin 1024) : EReal :=
  p.X r j * Ideal.rsqrt (Ideal.div (∑ k, p.X r k * p.X r k) (Ideal.ofBits .f32 0x44800000#32)
    + Ideal.ofBits .f32 0x358637BD#32) * p.G j

/-- The gate's argument. -/
def aa (r : Fin 4096) (k : Fin 2816) : EReal := ∑ j, hh p r j * p.Wg j k

/-- What the gate multiplies. -/
def bb (r : Fin 4096) (k : Fin 2816) : EReal := ∑ j, hh p r j * p.Wu j k

/-- The gated product. -/
def ss (r : Fin 4096) (k : Fin 2816) : EReal := aa p r k * Ideal.div 1 (1 + Ideal.exp (-aa p r k)) * bb p r k

/-- The half step's output. -/
def oo (r : Fin 4096) (j : Fin 1024) : EReal := p.X r j + Ideal.ofBits .f32 0x3F000000#32 * ∑ k, ss p r k * p.Wd k j

end Cert.Proof.Forward

end
-- ==== Proof.UpRef.lean ====
/- The reference of the forward pass's first call, read at an index. -/
module

public import proofs.«01_k».proof.Proof.Forward
public import proofs.«01_k».proof.Proof.Gen.Reference2Ideal.Read
public import Idealize.ShloMosaic.Lib.Pointwise

@[expose] public section

noncomputable section

namespace Cert.Proof.UpRef

open Idealize.ShloMosaic Cert.Reference2Ideal Cert.Reference2Ideal.Gen Cert.Reference2Ideal.Read Cert.Proof.Forward
open scoped BigOperators

variable (p : Args)

/-- The four argument arrays are those of `p`. -/
structure Lifts (x0 : S4096x1024.Idx → EReal) (x1 : S1x1024.Idx → EReal) (x2 x3 : S1024x2816.Idx → EReal) : Prop where
  h0 : ∀ i, x0 i = p.X (i 0) (i 1)
  h1 : ∀ i, x1 i = p.G (i 1)
  h2 : ∀ i, x2 i = p.Wg (i 0) (i 1)
  h3 : ∀ i, x3 i = p.Wu (i 0) (i 1)

variable {p} {x0 : S4096x1024.Idx → EReal} {x1 : S1x1024.Idx → EReal} {x2 x3 : S1024x2816.Idx → EReal}
  (L : Lifts p x0 x1 x2 x3)
include L

/-- The norm's output. -/
theorem v11 (i : S4096x1024.Idx) : val_main_v11 (F := Ideal) x0 x1 i = hh p (i 0) (i 1) := by
  simp only [val_main_v11_apply, val_main_v10_apply, val_main_v9_apply, val_main_v8_apply, val_main_v7_apply,
    val_main_v6_apply, val_main_v4_apply, val_main_v2_apply, val_main_v1_apply, val_main_v3_apply,
    val_main_v5_apply, val_main_v0_apply, val_main_cst_apply, val_main_cst_0_apply, val_main_cst_1_apply,
    Ideal.addf_def, Ideal.mulf_def, Ideal.hostDivf_def, Ideal.hostUnary_rsqrt_def, Ideal.ofBits_def,
    Ideal.ofBits_zero_f32, zero_add, L.h0, L.h1]
  rfl

/-- The gate's argument. -/
theorem v12 (i : S4096x2816.Idx) : val_main_v12 (F := Ideal) x0 x1 x2 i = aa p (i 0) (i 1) := by
  simp only [val_main_v12_apply, v11 L, L.h2]
  rfl

/-- What the gate multiplies. -/
theorem v13 (i : S4096x2816.Idx) : val_main_v13 (F := Ideal) x0 x1 x3 i = bb p (i 0) (i 1) := by
  simp only [val_main_v13_apply, v11 L, L.h3]
  rfl

/-- The gated product. -/
theorem v17 (i : S4096x2816.Idx) : val_main_v17 (F := Ideal) x0 x1 x2 x3 i = ss p (i 0) (i 1) := by
  simp only [val_main_v17_apply, val_main_v16_apply, val_main_call0_v5_apply, val_main_call0_v4_apply,
    val_main_call0_v3_apply, val_main_call0_v2_apply, val_main_call0_v1_apply, val_main_call0_v0_apply,
    val_main_call0_cst_apply, val_main_call0_cst_0_apply, v12 L, v13 L,
    Ideal.addf_def, Ideal.mulf_def, Ideal.hostDivf_def, Ideal.hostNegf_def, Ideal.negf_def, Ideal.hostUnary_exp_def,
    Ideal.ofBits_def, Ideal.ofBits_one_f32]
  rfl

theorem v14 (i : S4096x2816.Idx) : val_main_v14 (F := Ideal) x0 x1 x2 i = aa p (i 0) (i 1) := v12 L i
theorem v15 (i : S4096x2816.Idx) : val_main_v15 (F := Ideal) x0 x1 x3 i = bb p (i 0) (i 1) := v13 L i
theorem v18 (i : S4096x2816.Idx) : val_main_v18 (F := Ideal) x0 x1 x2 x3 i = ss p (i 0) (i 1) := v17 L i

end Cert.Proof.UpRef

end
-- ==== Proof.UpBlock.lean ====
/- One block of 512 rows in the forward pass's first call: every value its body computes, read at an index. The block's
   rows are rows `ρ` of the arrays; the two column chunks of the hidden width are the columns `lo` and `hi`. -/
module

public import proofs.«01_k».proof.Proof.Forward
public import proofs.«01_k».proof.Proof.KernelBlock
public import proofs.«01_k».proof.Proof.Gen.Kernel2Ideal.Skeleton
public import Idealize.ShloMosaic.Lib.Pointwise

@[expose] public section

set_option maxRecDepth 16384

noncomputable section

namespace Cert.Proof.UpBlock

open Idealize.ShloMosaic Cert.Kernel2Ideal Cert.Kernel2Ideal.Gen Cert.Proof.Forward
open Cert.Proof.KernelBlock (lo hi)
open scoped BigOperators

variable {p : Args} {ρ : Fin 512 → Fin 4096} {x : FVec Ideal S512x1024 .f32} {g : FVec Ideal S1x1024 .f32}

/-- The norm's output. -/
theorem pay7 (hx : ∀ i, x i = p.X (ρ (i 0)) (i 1)) (hg : ∀ i, g i = p.G (i 1)) (i : S512x1024.Idx) :
    k0_pay7 (F := Ideal) x g i = hh p (ρ (i 0)) (i 1) := by
  pointwise [k0_pay7]
  simp only [hx, hg]
  rfl

section Lo

variable {w v : FVec Ideal S1536x1024 .bf16} (hx : ∀ i, x i = p.X (ρ (i 0)) (i 1)) (hg : ∀ i, g i = p.G (i 1))
include hx hg

/-- The gate's argument, first chunk. -/
theorem pay8 (hw : ∀ i, w i = p.Wg (i 1) (lo (i 0))) (i : S512x1536.Idx) :
    k0_pay8 (F := Ideal) x g w i = aa p (ρ (i 0)) (lo (i 1)) := by
  pointwise [k0_pay8]
  simp only [pay7 hx hg, hw]
  rfl

/-- What the gate multiplies, first chunk. -/
theorem pay9 (hw : ∀ i, w i = p.Wu (i 1) (lo (i 0))) (i : S512x1536.Idx) :
    k0_pay9 (F := Ideal) x g w i = bb p (ρ (i 0)) (lo (i 1)) := by
  pointwise [k0_pay9]
  simp only [pay7 hx hg, hw]
  rfl

theorem pay10 (hw : ∀ i, w i = p.Wg (i 1) (lo (i 0))) (i : S512x1536.Idx) :
    k0_pay10 (F := Ideal) x g w i = aa p (ρ (i 0)) (lo (i 1)) := by
  pointwise [k0_pay10]
  exact pay8 hx hg hw _

theorem pay11 (hw : ∀ i, w i = p.Wu (i 1) (lo (i 0))) (i : S512x1536.Idx) :
    k0_pay11 (F := Ideal) x g w i = bb p (ρ (i 0)) (lo (i 1)) := by
  pointwise [k0_pay11]
  exact pay9 hx hg hw _

/-- The gated product, first chunk. -/
theorem pay1 (hw : ∀ i, w i = p.Wg (i 1) (lo (i 0))) (hv : ∀ i, v i = p.Wu (i 1) (lo (i 0))) (i : S512x1536.Idx) :
    k0_pay1 (F := Ideal) (k0_pay9 x g v) (k0_pay12 x g w) i = ss p (ρ (i 0)) (lo (i 1)) := by
  pointwise [k0_pay1, k0_pay12]
  simp only [pay8 hx hg hw, pay9 hx hg hv, zero_sub]
  rfl

end Lo

section Hi

variable {h : FVec Ideal S512x1024 .bf16} {w v : FVec Ideal S1280x1024 .bf16}
  (hh' : ∀ i, h i = hh p (ρ (i 0)) (i 1))
include hh'

/-- The gate's argument, second chunk. -/
theorem pay2 (hw : ∀ i, w i = p.Wg (i 1) (hi (i 0))) (i : S512x1280.Idx) :
    k0_pay2 (F := Ideal) h w i = aa p (ρ (i 0)) (hi (i 1)) := by
  pointwise [k0_pay2]
  simp only [hh', hw]
  rfl

/-- What the gate multiplies, second chunk. -/
theorem pay3 (hw : ∀ i, w i = p.Wu (i 1) (hi (i 0))) (i : S512x1280.Idx) :
    k0_pay3 (F := Ideal) h w i = bb p (ρ (i 0)) (hi (i 1)) := by
  pointwise [k0_pay3]
  simp only [hh', hw]
  rfl

theorem pay4 (hw : ∀ i, w i = p.Wg (i 1) (hi (i 0))) (i : S512x1280.Idx) :
    k0_pay4 (F := Ideal) h w i = aa p (ρ (i 0)) (hi (i 1)) := by
  pointwise [k0_pay4]
  exact pay2 hh' hw _

theorem pay5 (hw : ∀ i, w i = p.Wu (i 1) (hi (i 0))) (i : S512x1280.Idx) :
    k0_pay5 (F := Ideal) h w i = bb p (ρ (i 0)) (hi (i 1)) := by
  pointwise [k0_pay5]
  exact pay3 hh' hw _

/-- The gated product, second chunk. -/
theorem pay6 (hw : ∀ i, w i = p.Wg (i 1) (hi (i 0))) (hv : ∀ i, v i = p.Wu (i 1) (hi (i 0))) (i : S512x1280.Idx) :
    k0_pay6 (F := Ideal) h w v i = ss p (ρ (i 0)) (hi (i 1)) := by
  pointwise [k0_pay6]
  simp only [pay2 hh' hw, pay3 hh' hv, zero_sub]
  rfl

end Hi

end Cert.Proof.UpBlock

end
-- ==== Proof.UpPoints.lean ====
/- What one grid point of the forward pass's first call leaves in its output windows and in the two held weights: the
   first point copies the weights in, every later one finds them there. -/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Proof.UpPoints

open Idealize.ShloMosaic Idealize.SL.Sem Cert.Kernel2Ideal Cert.Kernel2Ideal.Gen

/-- One piece over the whole of an array is the array. -/
theorem canon_full (w : FVec Ideal S2816x1024 .bf16) :
    View.canon [(⟨Rect.whole S2816x1024, w⟩ : View.Piece (Elt Ideal) S2816x1024 .bf16)] = w :=
  View.canon_unit_zero (Val := Elt Ideal) (e := .bf16) rfl _ w

/-- A load from an array written whole is that load from what was written. -/
theorem readCov_full {κ : Kind} {sp : Space} (v : View sig κ sp S2816x1024 .bf16) (w : FVec Ideal S2816x1024 .bf16)
    (r : Rect S2816x1024) :
    v.readCov [(⟨Rect.whole S2816x1024, w⟩ : View.Piece (Elt Ideal) S2816x1024 .bf16)] r.toLoadRect
      = View.ld (Val := Elt Ideal) (e' := .bf16) w r := by
  rw [View.readCov_eq_canon', canon_full]

/-- The first chunk of a held weight. -/
abbrev wLo (w : FVec Ideal S2816x1024 .bf16) : FVec Ideal S1536x1024 .bf16 :=
  View.ld (Val := Elt Ideal) (e' := .bf16) w (Rect.unit (s := S2816x1024) ![0, 0] ![1536, 1024] inb_S2816x1024_S1536x1024_0_0)

/-- The second chunk of a held weight. -/
abbrev wHi (w : FVec Ideal S2816x1024 .bf16) : FVec Ideal S1280x1024 .bf16 :=
  View.ld (Val := Elt Ideal) (e' := .bf16) w (Rect.unit (s := S2816x1024) ![1536, 0] ![1280, 1024] inb_S2816x1024_S1280x1024_1536_0)

/-- A block stored a chunk at a time. -/
def chunks (l : FVec Ideal S512x1536 .bf16) (h : FVec Ideal S512x1280 .bf16) : FVec Ideal S512x2816 .bf16 :=
  View.canon (Val := Elt Ideal) (e := .bf16)
    [⟨Rect.unit (s := S512x2816) ![0, 1536] ![512, 1280] inb_S512x2816_S512x1280_0_1536, h⟩,
      ⟨Rect.unit (s := S512x2816) ![0, 0] ![512, 1536] inb_S512x2816_S512x1536_0_0, l⟩]

section Body

variable (x : FVec Ideal S512x1024 .f32) (g : FVec Ideal S1x1024 .f32) (w v : FVec Ideal S2816x1024 .bf16)

/-- The gate's argument. -/
def bodyA : FVec Ideal S512x2816 .bf16 := chunks (k0_pay10 (F := Ideal) x g (wLo w)) (k0_pay4 (F := Ideal) (k0_pay7 x g) (wHi w))

/-- What the gate multiplies. -/
def bodyB : FVec Ideal S512x2816 .bf16 := chunks (k0_pay11 (F := Ideal) x g (wLo v)) (k0_pay5 (F := Ideal) (k0_pay7 x g) (wHi v))

/-- The gated product. -/
def bodyS : FVec Ideal S512x2816 .bf16 :=
  chunks (k0_pay1 (F := Ideal) (k0_pay9 x g (wLo v)) (k0_pay12 x g (wLo w)))
    (k0_pay6 (F := Ideal) (k0_pay7 x g) (wHi w) (wHi v))

end Body

variable (m : (ℓ : Loc nD τ sig) → Buf (Elt Ideal) ℓ) (c : Dev nD)

/-- Every point leaves the host's two prepared weights in the scratches. -/
theorem held : ∀ (n : ℕ) (hn : n < cfg0.N),
    (outsAt0 m c n hn).2.2.2.1 = V m c main_v1 ∧ (outsAt0 m c n hn).2.2.2.2 = V m c main_v3 := by
  intro n
  induction n with
  | zero =>
    intro hn
    rw [outsAt0_A m c ⟨0, hn⟩ rfl]
    dsimp only
    refine ⟨funext fun y => ?_, funext fun y => ?_⟩
    all_goals
      frame_out
      exact congrFun (canon_full _) y
  | succ n ih =>
    intro hn
    have hN := lt_of_lt_of_eq hn (show cfg0.N = 8 from N_0)
    rw [outsAt0_B m c ⟨n + 1, hn⟩ (by show ¬(n + 1) % 8 = 0; omega)]
    exact ih (Nat.lt_of_succ_lt hn)

variable (t : Fin cfg0.N)

/-- The gate's argument a point leaves. -/
theorem out2 : (outsAt0 m c t.val t.isLt).1 = bodyA (iblk m c 0 t) (iblk m c 1 t) (V m c main_v1) := by
  funext y
  by_cases h0 : t.val % 8 = 0
  · rw [outsAt0_A m c t h0]
    dsimp only
    frame_out
    simp only [readCov_full]
    rfl
  · rw [outsAt0_B m c t h0]
    dsimp only
    frame_out
    simp only [read_unread_whole, (held m c _ _).1, (held m c _ _).2]
    rfl

/-- What the gate multiplies, as a point leaves it. -/
theorem out3 : (outsAt0 m c t.val t.isLt).2.1 = bodyB (iblk m c 0 t) (iblk m c 1 t) (V m c main_v3) := by
  funext y
  by_cases h0 : t.val % 8 = 0
  · rw [outsAt0_A m c t h0]
    dsimp only
    frame_out
    simp only [readCov_full]
    rfl
  · rw [outsAt0_B m c t h0]
    dsimp only
    frame_out
    simp only [read_unread_whole, (held m c _ _).1, (held m c _ _).2]
    rfl

/-- The gated product a point leaves. -/
theorem out4 : (outsAt0 m c t.val t.isLt).2.2.1
    = bodyS (iblk m c 0 t) (iblk m c 1 t) (V m c main_v1) (V m c main_v3) := by
  funext y
  by_cases h0 : t.val % 8 = 0
  · rw [outsAt0_A m c t h0]
    dsimp only
    frame_out
    simp only [readCov_full]
    rfl
  · rw [outsAt0_B m c t h0]
    dsimp only
    frame_out
    simp only [read_unread_whole, (held m c _ _).1, (held m c _ _).2]
    rfl

end Cert.Proof.UpPoints

end
-- ==== Proof.UpArrays.lean ====
/- The three result arrays of the forward pass's first call after its run: each is the array that Forward.lean names. -/
module

public import proofs.«01_k».proof.Proof.UpRef
public import proofs.«01_k».proof.Proof.UpBlock
public import proofs.«01_k».proof.Proof.UpPoints

@[expose] public section

set_option maxRecDepth 16384

noncomputable section

namespace Cert.Proof.UpArrays

open Idealize.ShloMosaic Idealize.SL.Sem Cert.Kernel2Ideal Cert.Kernel2Ideal.Gen Cert.Proof.Forward Cert.Proof.UpPoints
open Cert.Proof.KernelBlock (lo hi)

/-- Row `r` of point `t`'s block, as a row of the arrays. -/
def row (t : Fin cfg0.N) (r : Fin 512) : Fin 4096 :=
  ⟨512 * t.val + r.val, by have h := lt_of_lt_of_eq t.isLt (show cfg0.N = 8 from N_0); omega⟩

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel

variable {p : Args} {m : (ℓ : Loc nD τ sig) → Buf (Elt Ideal) ℓ} {c : Dev nD}

/-- The launched arguments are those of `p`. -/
abbrev Holds (m : (ℓ : Loc nD τ sig) → Buf (Elt Ideal) ℓ) (c : Dev nD) (p : Args) : Prop :=
  UpRef.Lifts p (m ((c.tc : Thread nD τ).loc main_arg0)) (m ((c.tc : Thread nD τ).loc main_arg1))
    (m ((c.tc : Thread nD τ).loc main_arg2)) (m ((c.tc : Thread nD τ).loc main_arg3))

theorem wLo_apply (w : FVec Ideal S2816x1024 .bf16) (i : S1536x1024.Idx) : wLo w i = w (ix2 (lo (i 0)) (i 1)) := by
  refine congrArg w (funext fun a => Fin.ext ?_)
  fin_cases a <;> simp [lo, ix2] <;> omega

theorem wHi_apply (w : FVec Ideal S2816x1024 .bf16) (i : S1280x1024.Idx) : wHi w i = w (ix2 (hi (i 0)) (i 1)) := by
  refine congrArg w (funext fun a => Fin.ext ?_)
  fin_cases a <;> simp [hi, ix2] <;> omega

/-- The two chunks cover a block. -/
theorem cover (q0 : FVec Ideal S512x1280 .bf16) (q1 : FVec Ideal S512x1536 .bf16) (i : S512x2816.Idx) :
    ∃ q ∈ ([⟨Rect.unit ![0, 1536] ![512, 1280] inb_S512x2816_S512x1280_0_1536, q0⟩,
        ⟨Rect.unit ![0, 0] ![512, 1536] inb_S512x2816_S512x1536_0_0, q1⟩] :
          List (View.Piece (Elt Ideal) S512x2816 .bf16)), i ∈ q.1.set := by
  have b0 : (i 0).val < 512 := (i 0).isLt
  have b1 : (i 1).val < 2816 := (i 1).isLt
  rcases lt_or_ge (i 1).val 1536 with h | h
  · refine ⟨_, .tail _ (.head _), (Rect.mem_set_unit (inb := inb_S512x2816_S512x1536_0_0)).2 fun a => ?_⟩
    fin_cases a <;> simp <;> omega
  · refine ⟨_, .head _, (Rect.mem_set_unit (inb := inb_S512x2816_S512x1280_0_1536)).2 fun a => ?_⟩
    fin_cases a <;> simp <;> omega

/-- A block stored a chunk at a time, read at an index, when both chunks are parts of one function. -/
theorem chunks_at {l : FVec Ideal S512x1536 .bf16} {q : FVec Ideal S512x1280 .bf16} {ρ : Fin 512 → Fin 4096}
    (f : Fin 4096 → Fin 2816 → EReal) (hl : ∀ i, l i = f (ρ (i 0)) (lo (i 1))) (hr : ∀ i, q i = f (ρ (i 0)) (hi (i 1)))
    (i : S512x2816.Idx) : chunks l q i = f (ρ (i 0)) (i 1) := by
  unfold chunks
  canon_tiles x h using cover _ _ i
  · exact (hr x).trans (congrArg₂ f (congrArg ρ (Fin.ext h0.symm)) (Fin.ext h1.symm))
  · exact (hl x).trans (congrArg₂ f (congrArg ρ (Fin.ext h0.symm)) (Fin.ext h1.symm))

section Blocks

variable (t : Fin cfg0.N)

theorem blk0 (i : S512x1024.Idx) :
    (iblk m c 0 t : FVec Ideal S512x1024 .f32) i = (V m c main_arg0 : FVec Ideal S4096x1024 .f32) (ix2 (row t (i 0)) (i 1)) := by
  unfold row; blk_ext [iblk, idx0 t]

theorem blk1 (i : S1x1024.Idx) :
    (iblk m c 1 t : FVec Ideal S1x1024 .f32) i = (V m c main_arg1 : FVec Ideal S1x1024 .f32) i := by
  blk_ext [iblk, idx1 t]

variable (L : Holds m c p)
include L

theorem x_at (i : S512x1024.Idx) : (iblk m c 0 t : FVec Ideal S512x1024 .f32) i = p.X (row t (i 0)) (i 1) := by
  rw [blk0, V_main_arg0]; exact L.h0 _

theorem g_at (i : S1x1024.Idx) : (iblk m c 1 t : FVec Ideal S1x1024 .f32) i = p.G (i 1) := by
  rw [blk1, V_main_arg1]; exact L.h1 _

omit t
/-- The gate's weight, transposed. -/
theorem wg_at (i : S2816x1024.Idx) : (V m c main_v1 : FVec Ideal S2816x1024 .bf16) i = p.Wg (i 1) (i 0) := by
  entry_read
  pointwise
  exact L.h2 _

/-- The other factor's weight, transposed. -/
theorem wu_at (i : S2816x1024.Idx) : (V m c main_v3 : FVec Ideal S2816x1024 .bf16) i = p.Wu (i 1) (i 0) := by
  entry_read
  pointwise
  exact L.h3 _

theorem wgLo_at (i : S1536x1024.Idx) : wLo (V m c main_v1) i = p.Wg (i 1) (lo (i 0)) := (wLo_apply _ i).trans (wg_at L _)
theorem wgHi_at (i : S1280x1024.Idx) : wHi (V m c main_v1) i = p.Wg (i 1) (hi (i 0)) := (wHi_apply _ i).trans (wg_at L _)
theorem wuLo_at (i : S1536x1024.Idx) : wLo (V m c main_v3) i = p.Wu (i 1) (lo (i 0)) := (wLo_apply _ i).trans (wu_at L _)
theorem wuHi_at (i : S1280x1024.Idx) : wHi (V m c main_v3) i = p.Wu (i 1) (hi (i 0)) := (wHi_apply _ i).trans (wu_at L _)

theorem h_at (t : Fin cfg0.N) (i : S512x1024.Idx) :
    k0_pay7 (F := Ideal) (iblk m c 0 t) (iblk m c 1 t) i = hh p (row t (i 0)) (i 1) :=
  UpBlock.pay7 (ρ := row t) (x_at t L) (g_at t L) i

theorem a_at (t : Fin cfg0.N) (i : S512x2816.Idx) :
    bodyA (iblk m c 0 t) (iblk m c 1 t) (V m c main_v1) i = aa p (row t (i 0)) (i 1) :=
  chunks_at (ρ := row t) (aa p) (UpBlock.pay10 (ρ := row t) (x_at t L) (g_at t L) (wgLo_at L))
    (UpBlock.pay4 (ρ := row t) (h_at L t) (wgHi_at L)) i

theorem b_at (t : Fin cfg0.N) (i : S512x2816.Idx) :
    bodyB (iblk m c 0 t) (iblk m c 1 t) (V m c main_v3) i = bb p (row t (i 0)) (i 1) :=
  chunks_at (ρ := row t) (bb p) (UpBlock.pay11 (ρ := row t) (x_at t L) (g_at t L) (wuLo_at L))
    (UpBlock.pay5 (ρ := row t) (h_at L t) (wuHi_at L)) i

theorem s_at (t : Fin cfg0.N) (i : S512x2816.Idx) :
    bodyS (iblk m c 0 t) (iblk m c 1 t) (V m c main_v1) (V m c main_v3) i = ss p (row t (i 0)) (i 1) :=
  chunks_at (ρ := row t) (ss p) (UpBlock.pay1 (ρ := row t) (x_at t L) (g_at t L) (wgLo_at L) (wuLo_at L))
    (UpBlock.pay6 (ρ := row t) (h_at L t) (wgHi_at L) (wuHi_at L)) i

end Blocks

variable (L : Holds m c p)
include L

theorem arr2 : (dats m 0 c).arrAt 2 cfg0.N = fun i : S4096x2816.Idx => aa p (i 0) (i 1) := by
  refine (dats m 0 c).arrAt_eq_of_covers 2 _ (by decide +kernel) fun t hf y => ?_
  blk_simp
  rw [after0_2, out2]
  refine (a_at L t y).trans ?_
  have e : (win0_2.blk t).view.emb y = ix2 (row t (y 0)) (y 1) := by unfold row; blk_ext [idx2 t]
  rw [e]; rfl

theorem arr3 : (dats m 0 c).arrAt 3 cfg0.N = fun i : S4096x2816.Idx => bb p (i 0) (i 1) := by
  refine (dats m 0 c).arrAt_eq_of_covers 3 _ (by decide +kernel) fun t hf y => ?_
  blk_simp
  rw [after0_3, out3]
  refine (b_at L t y).trans ?_
  have e : (win0_3.blk t).view.emb y = ix2 (row t (y 0)) (y 1) := by unfold row; blk_ext [idx3 t]
  rw [e]; rfl

theorem arr4 : (dats m 0 c).arrAt 4 cfg0.N = fun i : S4096x2816.Idx => ss p (i 0) (i 1) := by
  refine (dats m 0 c).arrAt_eq_of_covers 4 _ (by decide +kernel) fun t hf y => ?_
  blk_simp
  rw [after0_4, out4]
  refine (s_at L t y).trans ?_
  have e : (win0_4.blk t).view.emb y = ix2 (row t (y 0)) (y 1) := by unfold row; blk_ext [idx4 t]
  rw [e]; rfl

end Cert.Proof.UpArrays

end
-- ==== Proof.DownRef.lean ====
/- The reference of the half step's output, read at an index. -/
module

public import proofs.«01_k».proof.Proof.Forward
public import proofs.«01_k».proof.Proof.Gen.Reference3Ideal.Read
public import Idealize.ShloMosaic.Lib.Pointwise

@[expose] public section

noncomputable section

namespace Cert.Proof.DownRef

open Idealize.ShloMosaic Cert.Reference3Ideal Cert.Reference3Ideal.Gen Cert.Reference3Ideal.Read Cert.Proof.Forward
open scoped BigOperators

variable (p : Args)

/-- The five argument arrays are those of `p`. -/
structure Lifts (x0 : S4096x1024.Idx → EReal) (x1 : S1x1024.Idx → EReal) (x2 x3 : S1024x2816.Idx → EReal)
    (x4 : S2816x1024.Idx → EReal) : Prop where
  h0 : ∀ i, x0 i = p.X (i 0) (i 1)
  h1 : ∀ i, x1 i = p.G (i 1)
  h2 : ∀ i, x2 i = p.Wg (i 0) (i 1)
  h3 : ∀ i, x3 i = p.Wu (i 0) (i 1)
  h4 : ∀ i, x4 i = p.Wd (i 0) (i 1)

variable {p} {x0 : S4096x1024.Idx → EReal} {x1 : S1x1024.Idx → EReal} {x2 x3 : S1024x2816.Idx → EReal}
  {x4 : S2816x1024.Idx → EReal} (L : Lifts p x0 x1 x2 x3 x4)
include L

/-- The norm's output. -/
theorem v11 (i : S4096x1024.Idx) : val_main_v11 (F := Ideal) x0 x1 i = hh p (i 0) (i 1) := by
  simp only [val_main_v11_apply, val_main_v10_apply, val_main_v9_apply, val_main_v8_apply, val_main_v7_apply,
    val_main_v6_apply, val_main_v4_apply, val_main_v2_apply, val_main_v1_apply, val_main_v3_apply,
    val_main_v5_apply, val_main_v0_apply, val_main_cst_apply, val_main_cst_0_apply, val_main_cst_1_apply,
    Ideal.addf_def, Ideal.mulf_def, Ideal.hostDivf_def, Ideal.hostUnary_rsqrt_def, Ideal.ofBits_def,
    Ideal.ofBits_zero_f32, zero_add, L.h0, L.h1]
  rfl

/-- The gate's argument. -/
theorem v12 (i : S4096x2816.Idx) : val_main_v12 (F := Ideal) x0 x1 x2 i = aa p (i 0) (i 1) := by
  simp only [val_main_v12_apply, v11 L, L.h2]
  rfl

/-- What the gate multiplies. -/
theorem v13 (i : S4096x2816.Idx) : val_main_v13 (F := Ideal) x0 x1 x3 i = bb p (i 0) (i 1) := by
  simp only [val_main_v13_apply, v11 L, L.h3]
  rfl

/-- The gated product. -/
theorem v15 (i : S4096x2816.Idx) : val_main_v15 (F := Ideal) x0 x1 x2 x3 i = ss p (i 0) (i 1) := by
  simp only [val_main_v15_apply, val_main_v14_apply, val_main_call0_v5_apply, val_main_call0_v4_apply,
    val_main_call0_v3_apply, val_main_call0_v2_apply, val_main_call0_v1_apply, val_main_call0_v0_apply,
    val_main_call0_cst_apply, val_main_call0_cst_0_apply, v12 L, v13 L,
    Ideal.addf_def, Ideal.mulf_def, Ideal.hostDivf_def, Ideal.hostNegf_def, Ideal.negf_def, Ideal.hostUnary_exp_def,
    Ideal.ofBits_def, Ideal.ofBits_one_f32]
  rfl

/-- The half step's output. -/
theorem v19 (i : S4096x1024.Idx) : val_main_v19 (F := Ideal) x0 x1 x2 x3 x4 i = oo p (i 0) (i 1) := by
  simp only [val_main_v19_apply, val_main_v18_apply, val_main_v17_apply, val_main_v16_apply, val_main_cst_2_apply,
    v15 L, L.h0, L.h4, Ideal.addf_def, Ideal.mulf_def, Ideal.ofBits_def]
  rfl

end Cert.Proof.DownRef

end
-- ==== Proof.DownArrays.lean ====
/- The forward pass's second call: its result array after its run is the half step's output that Forward.lean names. The
   gated product it reads is a value of the host's plain lines, which are the reference's. -/
module

public import proofs.«01_k».proof.Proof.DownRef
public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.DownArrays

open Idealize.ShloMosaic Idealize.SL.Sem Cert.Kernel3Ideal Cert.Kernel3Ideal.Gen Cert.Proof.Forward

/-! ## One block -/

/-- The half step's output over a block of rows `ρ`. -/
theorem pay1 {p : Args} {ρ : Fin 512 → Fin 4096} {x : FVec Ideal S512x1024 .f32} {s : FVec Ideal S512x2816 .bf16}
    {w : FVec Ideal S2816x1024 .bf16} (hx : ∀ i, x i = p.X (ρ (i 0)) (i 1)) (hs : ∀ i, s i = ss p (ρ (i 0)) (i 1))
    (hw : ∀ i, w i = p.Wd (i 0) (i 1)) (i : S512x1024.Idx) :
    k0_pay1 (F := Ideal) x s w i = oo p (ρ (i 0)) (i 1) := by
  pointwise [k0_pay1]
  simp only [hx, hs, hw]
  rfl

/-! ## One point -/

/-- One piece over the whole of an array is the array. -/
theorem canon_full (w : FVec Ideal S2816x1024 .bf16) :
    View.canon [(⟨Rect.whole S2816x1024, w⟩ : View.Piece (Elt Ideal) S2816x1024 .bf16)] = w :=
  View.canon_unit_zero (Val := Elt Ideal) (e := .bf16) rfl _ w

/-- A load of the whole of an array written whole is what was written. -/
theorem readCov_full {κ : Kind} {sp : Space} (v : View sig κ sp S2816x1024 .bf16) (w : FVec Ideal S2816x1024 .bf16) :
    v.readCov [(⟨Rect.whole S2816x1024, w⟩ : View.Piece (Elt Ideal) S2816x1024 .bf16)]
        (Rect.unit (s := S2816x1024) ![0, 0] ![2816, 1024] inb_S2816x1024_S2816x1024_0_0).toLoadRect
      = w := by
  rw [View.readCov_eq_canon', canon_full]
  exact View.ld_unit_zero (Val := Elt Ideal) (e := .bf16) (funext fun a => by fin_cases a <;> rfl) _ w

variable (m : (ℓ : Loc nD τ sig) → Buf (Elt Ideal) ℓ) (c : Dev nD)

/-- Every point leaves the host's prepared weight in the scratch. -/
theorem held : ∀ (n : ℕ) (hn : n < cfg0.N), (outsAt0 m c n hn).2 = V m c main_v17 := by
  intro n
  induction n with
  | zero =>
    intro hn
    rw [outsAt0_A m c ⟨0, hn⟩ rfl]
    dsimp only
    funext y
    frame_out
    exact congrFun (canon_full _) y
  | succ n ih =>
    intro hn
    have hN := lt_of_lt_of_eq hn (show cfg0.N = 8 from N_0)
    rw [outsAt0_B m c ⟨n + 1, hn⟩ (by show ¬(n + 1) % 8 = 0; omega)]
    exact ih (Nat.lt_of_succ_lt hn)

variable (t : Fin cfg0.N)

/-- The output block a point leaves. -/
theorem out2 : (outsAt0 m c t.val t.isLt).1 = k0_pay1 (F := Ideal) (iblk m c 0 t) (iblk m c 1 t) (V m c main_v17) := by
  funext y
  by_cases h0 : t.val % 8 = 0
  · rw [outsAt0_A m c t h0]
    dsimp only
    frame_out
    simp only [readCov_full]
    rfl
  · rw [outsAt0_B m c t h0]
    dsimp only
    frame_out
    simp only [read_unread_whole, held m c _ _]

/-! ## The array -/

/-- Row `r` of point `t`'s block, as a row of the arrays. -/
def row (t : Fin cfg0.N) (r : Fin 512) : Fin 4096 :=
  ⟨512 * t.val + r.val, by have h := lt_of_lt_of_eq t.isLt (show cfg0.N = 8 from N_0); omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel

variable {p : Args} {m c}

/-- The launched arguments are those of `p`. -/
abbrev Holds (m : (ℓ : Loc nD τ sig) → Buf (Elt Ideal) ℓ) (c : Dev nD) (p : Args) : Prop :=
  DownRef.Lifts p (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

theorem blk0 (i : S512x1024.Idx) :
    (iblk m c 0 t : FVec Ideal S512x1024 .f32) i = (V m c main_arg0 : FVec Ideal S4096x1024 .f32) (ix2 (row t (i 0)) (i 1)) := by
  unfold row; blk_ext [iblk, idx0 t]

theorem blk1 (i : S512x2816.Idx) :
    (iblk m c 1 t : FVec Ideal S512x2816 .bf16) i = (V m c main_v16 : FVec Ideal S4096x2816 .bf16) (ix2 (row t (i 0)) (i 1)) := by
  unfold row; blk_ext [iblk, idx1 t]

omit t in
/-- The saved gated product is the reference's. -/
theorem entry_s : (V m c main_v16 : FVec Ideal S4096x2816 .bf16)
    = Cert.Reference3Ideal.Read.val_main_v15 (F := Ideal) (m ((c.tc : Thread nD τ).loc main_arg0))
        (m ((c.tc : Thread nD τ).loc main_arg1)) (m ((c.tc : Thread nD τ).loc main_arg2))
        (m ((c.tc : Thread nD τ).loc main_arg3)) := by
  entry_read
  rfl

variable (L : Holds m c p)
include L

theorem x_at (i : S512x1024.Idx) : (iblk m c 0 t : FVec Ideal S512x1024 .f32) i = p.X (row t (i 0)) (i 1) := by
  rw [blk0, V_main_arg0]; exact L.h0 _

theorem s_at (i : S512x2816.Idx) : (iblk m c 1 t : FVec Ideal S512x2816 .bf16) i = ss p (row t (i 0)) (i 1) := by
  rw [blk1, entry_s]; exact DownRef.v15 L _

omit t
theorem w_at (i : S2816x1024.Idx) : (V m c main_v17 : FVec Ideal S2816x1024 .bf16) i = p.Wd (i 0) (i 1) := by
  entry_read
  pointwise
  exact L.h4 _

theorem arr2 : (dats m 0 c).arrAt 2 cfg0.N = fun i : S4096x1024.Idx => oo p (i 0) (i 1) := by
  refine (dats m 0 c).arrAt_eq_of_covers 2 _ (by decide +kernel) fun t hf y => ?_
  blk_simp
  rw [after0_2, out2]
  refine (pay1 (ρ := row t) (x_at t L) (s_at t L) (w_at L) y).trans ?_
  have e : (win0_2.blk t).view.emb y = ix2 (row t (y 0)) (y 1) := by unfold row; blk_ext [idx2 t]
  rw [e]; rfl

end Cert.Proof.DownArrays

end
-- ==== Proof.ForwardClaims.lean ====
/- The claims about the forward pass's two calls: the references run and keep their arguments, and each call ends with the
   arrays that its reference ends with. -/
module

public import proofs.«01_k».proof.Defs
public import proofs.«01_k».proof.Proof.UpArrays
public import proofs.«01_k».proof.Proof.DownArrays
public import proofs.«01_k».proof.Proof.Gen.Kernel2Ideal.Frame
public import proofs.«01_k».proof.Proof.Gen.Kernel3Ideal.Frame
public import proofs.«01_k».proof.Proof.Gen.Reference2Ideal.Run
public import proofs.«01_k».proof.Proof.Gen.Reference3Ideal.Run
public import Idealize.ShloMosaic.Adequacy
public import Idealize.ShloMosaic.Init

@[expose] public section

noncomputable section

namespace Cert.Proof.ForwardClaims

open Idealize.ShloMosaic Idealize.SL.Sem

/-- An array at an equal index. -/
theorem at_index {S : Shape} {A : Type} (x : S.Idx → A) {i j : S.Idx} (e : i = j) : x i = x j := by rw [e]

/-- An index of a one-row array. -/
theorem eq_row {n : ℕ} (i : (⟨2, ![1, n]⟩ : Shape).Idx) : i = ix2 0 (i 1) :=
  (eq_ix2 i).trans (congrArg (fun a => ix2 a (i 1)) (Subsingleton.elim (α := Fin 1) _ _))

/-! ## The first call -/

/-- The reference runs, keeps its arguments, and ends quiescent. -/
theorem frame_reference2 : Cert.quiescent_Reference2Ideal (hReference2Ideal := Cert.Reference2Ideal.Gen.facts) :=
  fun m g _ =>
    (θ_run Cert.Reference2Ideal.defs _ _).mono (fun r h => ⟨fun c => (h c).2.2.2, sem_eq_zero_of_no_sems rfl r.2⟩)
      (Cert.Reference2Ideal.Value.run (F := Ideal) m g)

/-- The first call's arguments. -/
def args2 (m : (ℓ : Loc Cert.Kernel2Ideal.nD Cert.Kernel2Ideal.τ Cert.Kernel2Ideal.sig) → Buf (Elt Ideal) ℓ)
    (c : Dev Cert.Kernel2Ideal.nD) : Forward.Args where
  X r j := m ((c.tc : Thread Cert.Kernel2Ideal.nD Cert.Kernel2Ideal.τ).loc Cert.Kernel2Ideal.main_arg0) (ix2 r j)
  G j := m ((c.tc : Thread Cert.Kernel2Ideal.nD Cert.Kernel2Ideal.τ).loc Cert.Kernel2Ideal.main_arg1) (ix2 0 j)
  Wg j k := m ((c.tc : Thread Cert.Kernel2Ideal.nD Cert.Kernel2Ideal.τ).loc Cert.Kernel2Ideal.main_arg2) (ix2 j k)
  Wu j k := m ((c.tc : Thread Cert.Kernel2Ideal.nD Cert.Kernel2Ideal.τ).loc Cert.Kernel2Ideal.main_arg3) (ix2 j k)
  Wd _ _ := 0

theorem holds2 (m : (ℓ : Loc Cert.Kernel2Ideal.nD Cert.Kernel2Ideal.τ Cert.Kernel2Ideal.sig) → Buf (Elt Ideal) ℓ)
    (c : Dev Cert.Kernel2Ideal.nD) : UpArrays.Holds m c (args2 m c) :=
  ⟨fun i => at_index _ (eq_ix2 i), fun i => at_index _ (eq_row i), fun i => at_index _ (eq_ix2 i),
    fun i => at_index _ (eq_ix2 i)⟩

/-- Both programs end with the three arrays that Forward.lean names. -/
theorem algebraic2 : Cert.algebraic_Kernel2Ideal_Reference2Ideal (hKernel2Ideal := Cert.Kernel2Ideal.Gen.facts)
    (hReference2Ideal := Cert.Reference2Ideal.Gen.facts) := by
  intro m g m' g' _ hag
  have L' : ∀ c : Dev Cert.Reference2Ideal.nD, UpRef.Lifts (args2 m c)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) := fun c => by
    obtain ⟨e0, e1, e2, e3⟩ := hag c
    rw [e0, e1, e2, e3]
    exact holds2 m c
  refine ⟨fun c i => Forward.aa (args2 m c) (i 0) (i 1), fun c i => Forward.bb (args2 m c) (i 0) (i 1),
    fun c i => Forward.ss (args2 m c) (i 0) (i 1), ?_, ?_⟩
  · exact (θ_run Cert.Kernel2Ideal.defs _ _).mono (fun r h c => ⟨(h c).1.trans (UpArrays.arr2 (holds2 m c)),
      (h c).2.1.trans (UpArrays.arr3 (holds2 m c)), (h c).2.2.1.trans (UpArrays.arr4 (holds2 m c)), (h c).2.2.2⟩)
      (Cert.Kernel2Ideal.Value.run_blocks (F := Ideal) m g)
  · exact (θ_run Cert.Reference2Ideal.defs _ _).mono (fun r h c => ⟨
      (h c).1.trans ((Cert.Reference2Ideal.Read.val_main_v14_eq _ _ _).trans (funext (UpRef.v14 (L' c)))),
      (h c).2.1.trans ((Cert.Reference2Ideal.Read.val_main_v15_eq _ _ _).trans (funext (UpRef.v15 (L' c)))),
      (h c).2.2.1.trans ((Cert.Reference2Ideal.Read.val_main_v18_eq _ _ _ _).trans (funext (UpRef.v18 (L' c)))),
      (h c).2.2.2⟩) (Cert.Reference2Ideal.Value.run (F := Ideal) m' g')

/-! ## The second call -/

/-- The reference runs, keeps its arguments, and ends quiescent. -/
theorem frame_reference3 : Cert.quiescent_Reference3Ideal (hReference3Ideal := Cert.Reference3Ideal.Gen.facts) :=
  fun m g _ =>
    (θ_run Cert.Reference3Ideal.defs _ _).mono (fun r h => ⟨fun c => (h c).2, sem_eq_zero_of_no_sems rfl r.2⟩)
      (Cert.Reference3Ideal.Value.run (F := Ideal) m g)

/-- The second call's arguments. -/
def args3 (m : (ℓ : Loc Cert.Kernel3Ideal.nD Cert.Kernel3Ideal.τ Cert.Kernel3Ideal.sig) → Buf (Elt Ideal) ℓ)
    (c : Dev Cert.Kernel3Ideal.nD) : Forward.Args where
  X r j := m ((c.tc : Thread Cert.Kernel3Ideal.nD Cert.Kernel3Ideal.τ).loc Cert.Kernel3Ideal.main_arg0) (ix2 r j)
  G j := m ((c.tc : Thread Cert.Kernel3Ideal.nD Cert.Kernel3Ideal.τ).loc Cert.Kernel3Ideal.main_arg1) (ix2 0 j)
  Wg j k := m ((c.tc : Thread Cert.Kernel3Ideal.nD Cert.Kernel3Ideal.τ).loc Cert.Kernel3Ideal.main_arg2) (ix2 j k)
  Wu j k := m ((c.tc : Thread Cert.Kernel3Ideal.nD Cert.Kernel3Ideal.τ).loc Cert.Kernel3Ideal.main_arg3) (ix2 j k)
  Wd k j := m ((c.tc : Thread Cert.Kernel3Ideal.nD Cert.Kernel3Ideal.τ).loc Cert.Kernel3Ideal.main_arg4) (ix2 k j)

theorem holds3 (m : (ℓ : Loc Cert.Kernel3Ideal.nD Cert.Kernel3Ideal.τ Cert.Kernel3Ideal.sig) → Buf (Elt Ideal) ℓ)
    (c : Dev Cert.Kernel3Ideal.nD) : DownArrays.Holds m c (args3 m c) :=
  ⟨fun i => at_index _ (eq_ix2 i), fun i => at_index _ (eq_row i), fun i => at_index _ (eq_ix2 i),
    fun i => at_index _ (eq_ix2 i), fun i => at_index _ (eq_ix2 i)⟩

/-- Both programs end with the half step's output. -/
theorem algebraic3 : Cert.algebraic_Kernel3Ideal_Reference3Ideal (hKernel3Ideal := Cert.Kernel3Ideal.Gen.facts)
    (hReference3Ideal := Cert.Reference3Ideal.Gen.facts) := by
  intro m g m' g' _ hag
  have L' : ∀ c : Dev Cert.Reference3Ideal.nD, DownRef.Lifts (args3 m c)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)) := fun c => by
    obtain ⟨e0, e1, e2, e3, e4⟩ := hag c
    rw [e0, e1, e2, e3, e4]
    exact holds3 m c
  refine ⟨fun c i => Forward.oo (args3 m c) (i 0) (i 1), ?_, ?_⟩
  · exact (θ_run Cert.Kernel3Ideal.defs _ _).mono (fun r h c => ⟨(h c).1.trans (DownArrays.arr2 (holds3 m c)), (h c).2⟩)
      (Cert.Kernel3Ideal.Value.run_blocks (F := Ideal) m g)
  · exact (θ_run Cert.Reference3Ideal.defs _ _).mono (fun r h c => ⟨
      (h c).1.trans ((Cert.Reference3Ideal.Read.val_main_v19_eq _ _ _ _ _).trans (funext (DownRef.v19 (L' c)))),
      (h c).2⟩) (Cert.Reference3Ideal.Value.run (F := Ideal) m' g')

end Cert.Proof.ForwardClaims

end
-- ==== Proof.LossModel.lean ====
/- The step's loss over the real numbers: the half step's output, its norm, the error against the target, and the loss's
   gradients, when the arguments are finite. -/
module

public import proofs.«01_k».proof.Proof.Model

@[expose] public section

noncomputable section

namespace Cert.Proof.LossModel

open Idealize.ShloMosaic Cert.Proof.Model
open scoped BigOperators

theorem ofBits_two : Ideal.ofBits .f32 0x40000000#32 = ((2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

/-- The arguments as real arrays: the half step's, the last norm's gain and the target. -/
structure Args where
  S : Model.Args
  Gf : Fin 1024 → ℝ
  T : Fin 4096 → Fin 1024 → ℝ

variable (p : Args)

/-- The gated product. -/
def ss (r : Fin 4096) (k : Fin 2816) : ℝ := aa p.S r k * sg (aa p.S r k) * bb p.S r k

/-- The half step's output. -/
def oo (r : Fin 4096) (j : Fin 1024) : ℝ := p.S.X r j + 1 / 2 * ∑ k, ss p r k * p.S.Wd k j

/-- The last norm's arguments, as a half step's: only its input and its gain matter. -/
def nf : Model.Args where
  U _ _ := 0
  X := oo p
  G := p.Gf
  Wg _ _ := 0
  Wu _ _ := 0
  Wd _ _ := 0

/-- The error. -/
def er (r : Fin 4096) (j : Fin 1024) : ℝ := xh (nf p) r j * p.Gf j - p.T r j

/-- The cotangent of the last norm's output. -/
def dy (r : Fin 4096) (j : Fin 1024) : ℝ := er p r j * (1 / 1024)

/-- The squared error summed over the tokens. -/
def sq (j : Fin 1024) : ℝ := ∑ r, er p r j * er p r j

/-- The cotangent of the last norm's gain. -/
def dgf (j : Fin 1024) : ℝ := ∑ r, dy p r j * xh (nf p) r j

/-- The cotangent of the last norm's input. -/
def dx (r : Fin 4096) (j : Fin 1024) : ℝ :=
  rr (nf p) r * (dy p r j * p.Gf j - xh (nf p) r j * ((∑ k, dy p r k * p.Gf k * xh (nf p) r k) / 1024))

/-- The same cotangent, as differentiating the norm term by term gives it. -/
theorem dx_eq (r : Fin 4096) (j : Fin 1024) :
    dy p r j * p.Gf j * rr (nf p) r
        + oo p r j * ((∑ k, oo p r k * (dy p r k * p.Gf k)) * (-(1 / 2) * (rr (nf p) r / ms (nf p) r)) / 1024)
        + (∑ k, oo p r k * (dy p r k * p.Gf k)) * (-(1 / 2) * (rr (nf p) r / ms (nf p) r)) / 1024 * oo p r j
      = dx p r j := by
  have hx : ∀ k, xh (nf p) r k = oo p r k * rr (nf p) r := fun _ => rfl
  have hs : ∑ k, dy p r k * p.Gf k * xh (nf p) r k = (∑ k, oo p r k * (dy p r k * p.Gf k)) * rr (nf p) r := by
    rw [Finset.sum_mul]
    exact Finset.sum_congr rfl fun k _ => by rw [hx]; ring
  unfold dx
  rw [hs, div_eq_mul_inv (rr (nf p) r), ← rr_sq, hx]
  ring

end Cert.Proof.LossModel

end
-- ==== Proof.LossRef.lean ====
/- The reference of the loss's gradients at finite arguments: every value its operations compute, read at an index, is the
   real number that LossModel.lean names. -/
module

public import proofs.«01_k».proof.Proof.LossModel
public import proofs.«01_k».proof.Proof.Gen.Reference4Ideal.Read
public import Idealize.ShloMosaic.Lib.Pointwise

@[expose] public section

noncomputable section

namespace Cert.Proof.LossRef

open Idealize.ShloMosaic Cert.Reference4Ideal Cert.Reference4Ideal.Gen Cert.Reference4Ideal.Read Cert.Proof.Model
  Cert.Proof.LossModel
open scoped BigOperators

variable (p : LossModel.Args)

/-- The seven argument arrays hold the reals of `p`. -/
structure Lifts (x0 : S4096x1024.Idx → EReal) (x1 : S1x1024.Idx → EReal) (x2 x3 : S1024x2816.Idx → EReal)
    (x4 : S2816x1024.Idx → EReal) (x5 : S1x1024.Idx → EReal) (x6 : S4096x1024.Idx → EReal) : Prop where
  h0 : ∀ i, x0 i = ((p.S.X (i 0) (i 1) : ℝ) : EReal)
  h1 : ∀ i, x1 i = ((p.S.G (i 1) : ℝ) : EReal)
  h2 : ∀ i, x2 i = ((p.S.Wg (i 0) (i 1) : ℝ) : EReal)
  h3 : ∀ i, x3 i = ((p.S.Wu (i 0) (i 1) : ℝ) : EReal)
  h4 : ∀ i, x4 i = ((p.S.Wd (i 0) (i 1) : ℝ) : EReal)
  h5 : ∀ i, x5 i = ((p.Gf (i 1) : ℝ) : EReal)
  h6 : ∀ i, x6 i = ((p.T (i 0) (i 1) : ℝ) : EReal)

variable {p} {x0 : S4096x1024.Idx → EReal} {x1 : S1x1024.Idx → EReal} {x2 x3 : S1024x2816.Idx → EReal}
  {x4 : S2816x1024.Idx → EReal} {x5 : S1x1024.Idx → EReal} {x6 : S4096x1024.Idx → EReal}
  (L : Lifts p x0 x1 x2 x3 x4 x5 x6)
include L

/-! ## The half step -/

/-- The stabilized mean square of a row. -/
theorem v6 (i : S4096x1.Idx) : val_main_v6 (F := Ideal) x0 i = ((ms p.S (i 0) : ℝ) : EReal) := by
  simp only [val_main_v6_apply, val_main_v4_apply, val_main_v2_apply, val_main_v1_apply, val_main_v3_apply,
    val_main_v5_apply, val_main_v0_apply, val_main_cst_apply, val_main_cst_0_apply, val_main_cst_1_apply,
    Ideal.addf_def, Ideal.mulf_def, Ideal.hostDivf_def, Ideal.ofBits_def, Ideal.ofBits_zero_f32, zero_add,
    ofBits_1024, ofBits_eps, L.h0, ← EReal.coe_mul, sum_coe]
  rw [div_coe _ (by norm_num), ← EReal.coe_add]
  rfl

/-- The reciprocal root of the mean square. -/
theorem v7 (i : S4096x1.Idx) : val_main_v7 (F := Ideal) x0 i = ((rr p.S (i 0) : ℝ) : EReal) := by
  rw [val_main_v7_apply, v6 L, Ideal.hostUnary_rsqrt_def]
  exact rsqrt_pos (ms_pos p.S (i 0))

/-- The norm's output. -/
theorem v11 (i : S4096x1024.Idx) : val_main_v11 (F := Ideal) x0 x1 i = ((hh p.S (i 0) (i 1) : ℝ) : EReal) := by
  rw [val_main_v11_apply, val_main_v9_apply, val_main_v8_apply, val_main_v10_apply, v7 L, L.h0, L.h1, Ideal.mulf_def,
    Ideal.mulf_def, ← EReal.coe_mul, ← EReal.coe_mul]
  rfl

/-- The gate's argument. -/
theorem v12 (i : S4096x2816.Idx) : val_main_v12 (F := Ideal) x0 x1 x2 i = ((aa p.S (i 0) (i 1) : ℝ) : EReal) := by
  simp only [val_main_v12_apply, v11 L, L.h2, ← EReal.coe_mul, sum_coe]
  rfl

/-- What the gate multiplies. -/
theorem v13 (i : S4096x2816.Idx) : val_main_v13 (F := Ideal) x0 x1 x3 i = ((bb p.S (i 0) (i 1) : ℝ) : EReal) := by
  simp only [val_main_v13_apply, v11 L, L.h3, ← EReal.coe_mul, sum_coe]
  rfl

/-- The gated product. -/
theorem v15 (i : S4096x2816.Idx) : val_main_v15 (F := Ideal) x0 x1 x2 x3 i = ((ss p (i 0) (i 1) : ℝ) : EReal) := by
  simp only [val_main_v15_apply, val_main_v14_apply, val_main_call0_v5_apply, val_main_call0_v4_apply,
    val_main_call0_v3_apply, val_main_call0_v2_apply, val_main_call0_v1_apply, val_main_call0_v0_apply,
    val_main_call0_cst_apply, val_main_call0_cst_0_apply, v12 L, v13 L,
    Ideal.addf_def, Ideal.mulf_def, Ideal.hostDivf_def, Ideal.hostNegf_def, Ideal.negf_def, Ideal.hostUnary_exp_def,
    Ideal.ofBits_def, Ideal.ofBits_one_f32, ← EReal.coe_neg, exp_real, ← EReal.coe_one, ← EReal.coe_add]
  rw [div_coe _ (one_add_exp_ne _), ← EReal.coe_mul, ← EReal.coe_mul]
  rfl

/-- The half step's output. -/
theorem v19 (i : S4096x1024.Idx) : val_main_v19 (F := Ideal) x0 x1 x2 x3 x4 i = ((oo p (i 0) (i 1) : ℝ) : EReal) := by
  simp only [val_main_v19_apply, val_main_v18_apply, val_main_v17_apply, val_main_v16_apply, val_main_cst_2_apply,
    v15 L, L.h0, L.h4, Ideal.addf_def, Ideal.mulf_def, Ideal.ofBits_def, ofBits_half, ← EReal.coe_mul, sum_coe,
    ← EReal.coe_add]
  rfl

/-! ## The last norm -/

/-- The stabilized mean square of a row of the output. -/
theorem v26 (i : S4096x1.Idx) : val_main_v26 (F := Ideal) x0 x1 x2 x3 x4 i = ((ms (nf p) (i 0) : ℝ) : EReal) := by
  simp only [val_main_v26_apply, val_main_v24_apply, val_main_v22_apply, val_main_v21_apply, val_main_v23_apply,
    val_main_v25_apply, val_main_v20_apply, val_main_cst_3_apply, val_main_cst_4_apply, val_main_cst_5_apply,
    Ideal.addf_def, Ideal.mulf_def, Ideal.hostDivf_def, Ideal.ofBits_def, Ideal.ofBits_zero_f32, zero_add,
    ofBits_1024, ofBits_eps, v19 L, ← EReal.coe_mul, sum_coe]
  rw [div_coe _ (by norm_num), ← EReal.coe_add]
  rfl

/-- The reciprocal root of the mean square. -/
theorem v27 (i : S4096x1.Idx) : val_main_v27 (F := Ideal) x0 x1 x2 x3 x4 i = ((rr (nf p) (i 0) : ℝ) : EReal) := by
  rw [val_main_v27_apply, v26 L, Ideal.hostUnary_rsqrt_def]
  exact rsqrt_pos (ms_pos (nf p) (i 0))

/-- The root's derivative at a row. -/
theorem v30 (i : S4096x1.Idx) : val_main_v30 (F := Ideal) x0 x1 x2 x3 x4 i
    = ((-(1 / 2) * (rr (nf p) (i 0) / ms (nf p) (i 0)) : ℝ) : EReal) := by
  rw [val_main_v30_apply, val_main_v29_apply, val_main_cst_6_apply, val_main_v28_apply, v27 L, v26 L, Ideal.hostDivf_def,
    Ideal.mulf_def, Ideal.ofBits_def, ofBits_neg_half]
  exact (congrArg _ (div_coe (rr (nf p) (i 0)) (ms_pos (nf p) (i 0)).ne')).trans (EReal.coe_mul _ _).symm

/-- The normalized row. -/
theorem v32 (i : S4096x1024.Idx) : val_main_v32 (F := Ideal) x0 x1 x2 x3 x4 i = ((xh (nf p) (i 0) (i 1) : ℝ) : EReal) := by
  rw [val_main_v32_apply, val_main_v31_apply, v27 L, v19 L, Ideal.mulf_def, ← EReal.coe_mul]
  rfl

/-- The error. -/
theorem v35 (i : S4096x1024.Idx) :
    val_main_v35 (F := Ideal) x0 x1 x2 x3 x4 x5 x6 i = ((er p (i 0) (i 1) : ℝ) : EReal) := by
  rw [val_main_v35_apply, val_main_v34_apply, val_main_v33_apply, v32 L, L.h5, L.h6, Ideal.mulf_def, Ideal.subf_def,
    ← EReal.coe_mul, ← EReal.coe_sub]
  rfl

/-- The norm's output's cotangent. -/
theorem v49 (i : S4096x1024.Idx) :
    val_main_v49 (F := Ideal) x0 x1 x2 x3 x4 x5 x6 i = ((dy p (i 0) (i 1) : ℝ) : EReal) := by
  simp only [val_main_v49_apply, val_main_v48_apply, val_main_v47_apply, val_main_v46_apply, val_main_v45_apply,
    val_main_v44_apply, val_main_v38_apply, val_main_v37_apply, val_main_cst_12_apply, val_main_cst_13_apply,
    val_main_cst_14_apply, val_main_cst_7_apply, v35 L, Ideal.mulf_def, Ideal.hostDivf_def, Ideal.ofBits_def, ofBits_half,
    Ideal.ofBits_one_f32, ofBits_1024, ofBits_two, mul_one, div_coe _ (show (1024 : ℝ) ≠ 0 by norm_num), ← EReal.coe_mul]
  congr 1
  unfold dy
  ring

/-- The gain's cotangent. -/
theorem v52 (i : S1x1024.Idx) :
    val_main_v52 (F := Ideal) x0 x1 x2 x3 x4 x5 x6 i = ((dgf p (i 1) : ℝ) : EReal) := by
  simp only [val_main_v52_apply, val_main_v51_apply, val_main_v50_apply, val_main_cst_15_apply, v32 L, v49 L,
    Ideal.mulf_def, Ideal.ofBits_def, Ideal.ofBits_zero_f32, zero_add, ← EReal.coe_mul, sum_coe]
  refine congrArg _ (Finset.sum_congr rfl fun r _ => ?_)
  have e : idx_main_v51 (idx_main_v52 i) r 1 = i 1 := Fin.ext (by
    have h : (i 0).val < 1 := (i 0).isLt
    show (i 0).val * 1024 + (i 1).val = (i 1).val
    omega)
  rw [e]
  exact mul_comm (xh (nf p) r (i 1)) (dy p r (i 1))

/-- The norm's cotangent scaled by the gain. -/
theorem v54 (i : S4096x1024.Idx) :
    val_main_v54 (F := Ideal) x0 x1 x2 x3 x4 x5 x6 i = ((dy p (i 0) (i 1) * p.Gf (i 1) : ℝ) : EReal) := by
  rw [val_main_v54_apply, val_main_v53_apply, v49 L, L.h5, Ideal.mulf_def, ← EReal.coe_mul]
  rfl

/-- The mean square's cotangent, spread over its row. -/
theorem v64 (i : S4096x1024.Idx) :
    val_main_v64 (F := Ideal) x0 x1 x2 x3 x4 x5 x6 i
      = (((∑ k, oo p (i 0) k * (dy p (i 0) k * p.Gf k)) * (-(1 / 2) * (rr (nf p) (i 0) / ms (nf p) (i 0))) / 1024 : ℝ)
          : EReal) := by
  simp only [val_main_v64_apply, val_main_v63_apply, val_main_v62_apply, val_main_v61_apply, val_main_v60_apply,
    val_main_v57_apply, val_main_v56_apply, val_main_v55_apply, val_main_cst_16_apply, val_main_cst_17_apply,
    val_main_cst_18_apply, v30 L, v54 L, v19 L, Ideal.mulf_def, Ideal.hostDivf_def, Ideal.ofBits_def,
    Ideal.ofBits_zero_f32, ofBits_1024, zero_add, ← EReal.coe_mul, sum_coe, Fin.sum_univ_one,
    div_coe _ (show (1024 : ℝ) ≠ 0 by norm_num)]
  refine congrArg _ (congrArg (· / (1024 : ℝ)) (congrArg₂ (· * ·) ?_ ?_))
  · refine Finset.sum_congr rfl fun k _ => ?_
    have e : idx_main_v56 (idx_main_v57 (idx_main_v63 (idx_main_v64 i) 0)) k 0 = i 0 := Fin.ext (by
      show (i 0).val * 1 + 0 = (i 0).val
      omega)
    rw [e]
    rfl
  · rfl

/-- The norm's input's cotangent. -/
theorem v68 (i : S4096x1024.Idx) :
    val_main_v68 (F := Ideal) x0 x1 x2 x3 x4 x5 x6 i = ((LossModel.dx p (i 0) (i 1) : ℝ) : EReal) := by
  rw [val_main_v68_apply, val_main_v67_apply, val_main_v66_apply, val_main_v65_apply, val_main_v59_apply,
    val_main_v58_apply, v64 L, v54 L, v27 L, v19 L]
  simp only [Ideal.mulf_def, Ideal.addf_def, ← EReal.coe_mul, ← EReal.coe_add]
  exact congrArg _ (LossModel.dx_eq p _ _)

/-! ## The squared error -/

/-- The stabilized mean square of a row of the output, taken again. -/
theorem v75 (i : S4096x1.Idx) : val_main_v75 (F := Ideal) x0 x1 x2 x3 x4 i = ((ms (nf p) (i 0) : ℝ) : EReal) := by
  simp only [val_main_v75_apply, val_main_v73_apply, val_main_v71_apply, val_main_v70_apply, val_main_v72_apply,
    val_main_v74_apply, val_main_v69_apply, val_main_cst_19_apply, val_main_cst_20_apply, val_main_cst_21_apply,
    Ideal.addf_def, Ideal.mulf_def, Ideal.hostDivf_def, Ideal.ofBits_def, Ideal.ofBits_zero_f32, zero_add,
    ofBits_1024, ofBits_eps, v19 L, ← EReal.coe_mul, sum_coe]
  rw [div_coe _ (by norm_num), ← EReal.coe_add]
  rfl

/-- The reciprocal root of the mean square, taken again. -/
theorem v76 (i : S4096x1.Idx) : val_main_v76 (F := Ideal) x0 x1 x2 x3 x4 i = ((rr (nf p) (i 0) : ℝ) : EReal) := by
  rw [val_main_v76_apply, v75 L, Ideal.hostUnary_rsqrt_def]
  exact rsqrt_pos (ms_pos (nf p) (i 0))

/-- The error, taken again. -/
theorem v81 (i : S4096x1024.Idx) :
    val_main_v81 (F := Ideal) x0 x1 x2 x3 x4 x5 x6 i = ((er p (i 0) (i 1) : ℝ) : EReal) := by
  rw [val_main_v81_apply, val_main_v80_apply, val_main_v79_apply, val_main_v78_apply, val_main_v77_apply,
    v76 L, v19 L, L.h5, L.h6, Ideal.mulf_def, Ideal.mulf_def, Ideal.subf_def, ← EReal.coe_mul, ← EReal.coe_mul, ← EReal.coe_sub]
  rfl

/-- The squared error summed over the tokens. -/
theorem v84 (i : S1x1024.Idx) :
    val_main_v84 (F := Ideal) x0 x1 x2 x3 x4 x5 x6 i = ((sq p (i 1) : ℝ) : EReal) := by
  simp only [val_main_v84_apply, val_main_v83_apply, val_main_v82_apply, val_main_cst_22_apply, v81 L,
    Ideal.mulf_def, Ideal.ofBits_def, Ideal.ofBits_zero_f32, zero_add, ← EReal.coe_mul, sum_coe]
  rfl

end Cert.Proof.LossRef

end
-- ==== Proof.LossBlock.lean ====
/- The loss head's values over one block of rows, at finite arguments, and what every point of its grid leaves. -/
module

public import proofs.«01_k».proof.Proof.LossRef
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.LossBlock

open Idealize.ShloMosaic Idealize.SL.Sem Cert.Kernel4Ideal Cert.Kernel4Ideal.Gen Cert.Proof.Model Cert.Proof.LossModel
open scoped BigOperators

/-! ## One block -/

section Block

variable {p : LossModel.Args} {ρ : Fin 512 → Fin 4096} {x : FVec Ideal S512x1024 .f32} {s : FVec Ideal S512x2816 .bf16}
  {w : FVec Ideal S2816x1024 .bf16} {g : FVec Ideal S1x1024 .f32} {y : FVec Ideal S512x1024 .f32}
  (hx : ∀ i, x i = ((p.S.X (ρ (i 0)) (i 1) : ℝ) : EReal)) (hs : ∀ i, s i = ((ss p (ρ (i 0)) (i 1) : ℝ) : EReal))
  (hw : ∀ i, w i = ((p.S.Wd (i 0) (i 1) : ℝ) : EReal)) (hg : ∀ i, g i = ((p.Gf (i 1) : ℝ) : EReal))
  (hy : ∀ i, y i = ((p.T (ρ (i 0)) (i 1) : ℝ) : EReal))

section
include hx hs hw

/-- The half step's output. -/
theorem pay6 (i : S512x1024.Idx) : k0_pay6 (F := Ideal) x s w i = ((oo p (ρ (i 0)) (i 1) : ℝ) : EReal) := by
  pointwise [k0_pay6]
  simp only [hx, hs, hw, ofBits_half, ← EReal.coe_mul, sum_coe, ← EReal.coe_add]
  rfl

/-- The reciprocal root of a row's mean square. -/
theorem pay7 (i : S512x1.Idx) : k0_pay7 (F := Ideal) x s w i = ((rr (nf p) (ρ (i 0)) : ℝ) : EReal) := by
  pointwise [k0_pay7]
  simp only [pay6 hx hs hw, ofBits_1024, ofBits_eps, ← EReal.coe_mul, sum_coe]
  rw [div_coe _ (by norm_num), ← EReal.coe_add]
  exact rsqrt_pos (ms_pos (nf p) (ρ (i 0)))

/-- The normalized row. -/
theorem pay8 (i : S512x1024.Idx) : k0_pay8 (F := Ideal) x s w i = ((xh (nf p) (ρ (i 0)) (i 1) : ℝ) : EReal) := by
  pointwise [k0_pay8]
  rw [pay6 hx hs hw, pay7 hx hs hw, ← EReal.coe_mul]
  rfl

include hg hy

/-- The error. -/
theorem pay9 (i : S512x1024.Idx) : k0_pay9 (F := Ideal) x s w g y i = ((er p (ρ (i 0)) (i 1) : ℝ) : EReal) := by
  pointwise [k0_pay9]
  rw [pay8 hx hs hw, hg, hy, ← EReal.coe_mul, ← EReal.coe_sub]
  rfl

/-- The norm's output's cotangent. -/
theorem pay10 (i : S512x1024.Idx) : k0_pay10 (F := Ideal) x s w g y i = ((dy p (ρ (i 0)) (i 1) : ℝ) : EReal) := by
  pointwise [k0_pay10]
  rw [pay9 hx hs hw hg hy, ofBits_inv_1024, ← EReal.coe_mul]
  rfl

/-- The norm's input's cotangent. -/
theorem pay1 (i : S512x1024.Idx) :
    k0_pay1 (F := Ideal) (k0_pay7 x s w) (k0_pay11 x s w g y) i = ((LossModel.dx p (ρ (i 0)) (i 1) : ℝ) : EReal) := by
  pointwise [k0_pay1, k0_pay11]
  simp only [pay7 hx hs hw, pay8 hx hs hw, pay10 hx hs hw hg hy, hg, ofBits_1024, sum_coe,
    div_coe _ (show (1024 : ℝ) ≠ 0 by norm_num), ← EReal.coe_mul, ← EReal.coe_sub]
  rfl

/-- The squared error after a block. -/
theorem pay2 (o : FVec Ideal S1x1024 .f32) (i : S1x1024.Idx) :
    k0_pay2 (F := Ideal) (k0_pay9 x s w g y) o i
      = o i + ((∑ r, er p (ρ r) (i 1) * er p (ρ r) (i 1) : ℝ) : EReal) := by
  pointwise [k0_pay2]
  simp only [pay9 hx hs hw hg hy, ← EReal.coe_mul, sum_coe]
  rfl

/-- The gain's cotangent after a block. -/
theorem pay3 (o : FVec Ideal S1x1024 .f32) (i : S1x1024.Idx) :
    k0_pay3 (F := Ideal) (k0_pay8 x s w) (k0_pay10 x s w g y) o i
      = o i + ((∑ r, dy p (ρ r) (i 1) * xh (nf p) (ρ r) (i 1) : ℝ) : EReal) := by
  pointwise [k0_pay3]
  simp only [pay8 hx hs hw, pay10 hx hs hw hg hy, ← EReal.coe_mul, sum_coe]
  rfl

end

end Block

/-! ## One point -/

/-- One piece over the whole of an array is the array. -/
theorem canon_full (w : FVec Ideal S2816x1024 .bf16) :
    View.canon [(⟨Rect.whole S2816x1024, w⟩ : View.Piece (Elt Ideal) S2816x1024 .bf16)] = w :=
  View.canon_unit_zero (Val := Elt Ideal) (e := .bf16) rfl _ w

/-- A load of the whole of an array written whole is what was written. -/
theorem readCov_full {κ : Kind} {sp : Space} (v : View sig κ sp S2816x1024 .bf16) (w : FVec Ideal S2816x1024 .bf16) :
    v.readCov [(⟨Rect.whole S2816x1024, w⟩ : View.Piece (Elt Ideal) S2816x1024 .bf16)]
        (Rect.unit (s := S2816x1024) ![0, 0] ![2816, 1024] inb_S2816x1024_S2816x1024_0_0).toLoadRect
      = w := by
  rw [View.readCov_eq_canon', canon_full]
  exact View.ld_unit_zero (Val := Elt Ideal) (e := .bf16) (funext fun a => by fin_cases a <;> rfl) _ w

variable (m : (ℓ : Loc nD τ sig) → Buf (Elt Ideal) ℓ) (c : Dev nD)

/-- Every point leaves the host's prepared weight in the scratch. -/
theorem held : ∀ (n : ℕ) (hn : n < cfg0.N), (outsAt0 m c n hn).2.2.2 = V m c main_v17 := by
  intro n
  induction n with
  | zero =>
    intro hn
    rw [outsAt0_A m c ⟨0, hn⟩ rfl]
    dsimp only
    funext y
    frame_out
    exact congrFun (canon_full _) y
  | succ n ih =>
    intro hn
    have hN := lt_of_lt_of_eq hn (show cfg0.N = 8 from N_0)
    rw [outsAt0_B m c ⟨n + 1, hn⟩ (by show ¬(n + 1) % 8 = 0; omega)]
    exact ih (Nat.lt_of_succ_lt hn)

variable (t : Fin cfg0.N)

/-- The cotangent block a point leaves. -/
theorem out4 : (outsAt0 m c t.val t.isLt).1
    = k0_pay1 (F := Ideal) (k0_pay7 (iblk m c 0 t) (iblk m c 1 t) (V m c main_v17))
        (k0_pay11 (iblk m c 0 t) (iblk m c 1 t) (V m c main_v17) (iblk m c 2 t) (iblk m c 3 t)) := by
  funext y
  by_cases h0 : t.val % 8 = 0
  · rw [outsAt0_A m c t h0]
    dsimp only
    frame_out
    simp only [readCov_full]
    rfl
  · rw [outsAt0_B m c t h0]
    dsimp only
    frame_out
    simp only [read_unread_whole, held m c _ _]

/-- The squared error the first point leaves. -/
theorem out5_first (h0 : t.val % 8 = 0) : (outsAt0 m c t.val t.isLt).2.1
    = k0_pay2 (F := Ideal) (k0_pay9 (iblk m c 0 t) (iblk m c 1 t) (V m c main_v17) (iblk m c 2 t) (iblk m c 3 t))
        (k0_pay4 (F := Ideal)) := by
  funext y
  rw [outsAt0_A m c t h0]
  dsimp only
  frame_out
  simp only [readCov_full]
  rfl

/-- The squared error a later point leaves. -/
theorem out5_next (h0 : ¬t.val % 8 = 0) : (outsAt0 m c t.val t.isLt).2.1
    = k0_pay2 (F := Ideal) (k0_pay9 (iblk m c 0 t) (iblk m c 1 t) (V m c main_v17) (iblk m c 2 t) (iblk m c 3 t))
        (outsAt0 m c (t.val - 1) (Nat.lt_of_le_of_lt (Nat.sub_le _ _) t.isLt)).2.1 := by
  funext y
  rw [outsAt0_B m c t h0]
  dsimp only
  frame_out
  simp only [read_unread_whole, held m c _ _]

/-- The gain's cotangent the first point leaves. -/
theorem out6_first (h0 : t.val % 8 = 0) : (outsAt0 m c t.val t.isLt).2.2.1
    = k0_pay3 (F := Ideal) (k0_pay8 (iblk m c 0 t) (iblk m c 1 t) (V m c main_v17))
        (k0_pay10 (iblk m c 0 t) (iblk m c 1 t) (V m c main_v17) (iblk m c 2 t) (iblk m c 3 t))
        (k0_pay5 (F := Ideal)) := by
  funext y
  rw [outsAt0_A m c t h0]
  dsimp only
  frame_out
  simp only [readCov_full]
  rfl

/-- The gain's cotangent a later point leaves. -/
theorem out6_next (h0 : ¬t.val % 8 = 0) : (outsAt0 m c t.val t.isLt).2.2.1
    = k0_pay3 (F := Ideal) (k0_pay8 (iblk m c 0 t) (iblk m c 1 t) (V m c main_v17))
        (k0_pay10 (iblk m c 0 t) (iblk m c 1 t) (V m c main_v17) (iblk m c 2 t) (iblk m c 3 t))
        (outsAt0 m c (t.val - 1) (Nat.lt_of_le_of_lt (Nat.sub_le _ _) t.isLt)).2.2.1 := by
  funext y
  rw [outsAt0_B m c t h0]
  dsimp only
  frame_out
  simp only [read_unread_whole, held m c _ _]

end Cert.Proof.LossBlock

end
-- ==== Proof.LossArrays.lean ====
/- The loss head's result arrays after its run, at finite arguments: each is the real array that LossModel.lean names. The
   gated product it reads is a value of the host's plain lines, which are the reference's. -/
module

public import proofs.«01_k».proof.Proof.LossBlock

@[expose] public section

set_option maxRecDepth 16384

noncomputable section

namespace Cert.Proof.LossArrays

open Idealize.ShloMosaic Idealize.SL.Sem Cert.Kernel4Ideal Cert.Kernel4Ideal.Gen Cert.Proof.Model Cert.Proof.LossModel
open scoped BigOperators

/-- Row `r` of point `t`'s block, as a row of the arrays. -/
def row (t : Fin cfg0.N) (r : Fin 512) : Fin 4096 :=
  ⟨512 * t.val + r.val, by have h := lt_of_lt_of_eq t.isLt (show cfg0.N = 8 from N_0); omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel

variable {p : LossModel.Args} {m : (ℓ : Loc nD τ sig) → Buf (Elt Ideal) ℓ} {c : Dev nD} (t : Fin cfg0.N)

/-- The launched arguments are those of `p`. -/
abbrev Holds (m : (ℓ : Loc nD τ sig) → Buf (Elt Ideal) ℓ) (c : Dev nD) (p : LossModel.Args) : Prop :=
  LossRef.Lifts p (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-! ## The blocks -/

theorem blk0 (i : S512x1024.Idx) :
    (iblk m c 0 t : FVec Ideal S512x1024 .f32) i = (V m c main_arg0 : FVec Ideal S4096x1024 .f32) (ix2 (row t (i 0)) (i 1)) := by
  unfold row; blk_ext [iblk, idx0 t]

theorem blk1 (i : S512x2816.Idx) :
    (iblk m c 1 t : FVec Ideal S512x2816 .bf16) i = (V m c main_v16 : FVec Ideal S4096x2816 .bf16) (ix2 (row t (i 0)) (i 1)) := by
  unfold row; blk_ext [iblk, idx1 t]

theorem blk2 (i : S1x1024.Idx) :
    (iblk m c 2 t : FVec Ideal S1x1024 .f32) i = (V m c main_arg5 : FVec Ideal S1x1024 .f32) i := by
  blk_ext [iblk, idx2 t]

theorem blk3 (i : S512x1024.Idx) :
    (iblk m c 3 t : FVec Ideal S512x1024 .f32) i = (V m c main_arg6 : FVec Ideal S4096x1024 .f32) (ix2 (row t (i 0)) (i 1)) := by
  unfold row; blk_ext [iblk, idx3 t]

omit t in
/-- The saved gated product is the reference's. -/
theorem entry_s : (V m c main_v16 : FVec Ideal S4096x2816 .bf16)
    = Cert.Reference4Ideal.Read.val_main_v15 (F := Ideal) (m ((c.tc : Thread nD τ).loc main_arg0))
        (m ((c.tc : Thread nD τ).loc main_arg1)) (m ((c.tc : Thread nD τ).loc main_arg2))
        (m ((c.tc : Thread nD τ).loc main_arg3)) := by
  entry_read
  rfl

variable (L : Holds m c p)
include L

theorem x_at (i : S512x1024.Idx) :
    (iblk m c 0 t : FVec Ideal S512x1024 .f32) i = ((p.S.X (row t (i 0)) (i 1) : ℝ) : EReal) := by
  rw [blk0, V_main_arg0]; exact L.h0 _

theorem s_at (i : S512x2816.Idx) :
    (iblk m c 1 t : FVec Ideal S512x2816 .bf16) i = ((ss p (row t (i 0)) (i 1) : ℝ) : EReal) := by
  rw [blk1, entry_s]; exact LossRef.v15 L _

theorem g_at (i : S1x1024.Idx) : (iblk m c 2 t : FVec Ideal S1x1024 .f32) i = ((p.Gf (i 1) : ℝ) : EReal) := by
  rw [blk2, V_main_arg5]; exact L.h5 _

theorem y_at (i : S512x1024.Idx) :
    (iblk m c 3 t : FVec Ideal S512x1024 .f32) i = ((p.T (row t (i 0)) (i 1) : ℝ) : EReal) := by
  rw [blk3, V_main_arg6]; exact L.h6 _

omit t
theorem w_at (i : S2816x1024.Idx) : (V m c main_v17 : FVec Ideal S2816x1024 .bf16) i = ((p.S.Wd (i 0) (i 1) : ℝ) : EReal) := by
  entry_read
  pointwise
  exact L.h4 _

/-! ## The arrays -/

theorem arr4 : (dats m 0 c).arrAt 4 cfg0.N = fun i : S4096x1024.Idx => ((LossModel.dx p (i 0) (i 1) : ℝ) : EReal) := by
  refine (dats m 0 c).arrAt_eq_of_covers 4 _ (by decide +kernel) fun t hf y => ?_
  blk_simp
  rw [after0_4, LossBlock.out4]
  refine (LossBlock.pay1 (ρ := row t) (x_at t L) (s_at t L) (w_at L) (g_at t L) (y_at t L) y).trans ?_
  have e : (win0_4.blk t).view.emb y = ix2 (row t (y 0)) (y 1) := by unfold row; blk_ext [idx4 t]
  rw [e]; rfl

omit L in
/-- A sum over the points of sums over their rows is a sum over the rows of the arrays. -/
theorem sum_rows (f : Fin 4096 → ℝ) :
    ∑ n ∈ Finset.range 8, (if h : n < cfg0.N then ∑ r, f (row ⟨n, h⟩ r) else 0) = ∑ r, f r := by
  have h8 : cfg0.N = 8 := N_0
  rw [Finset.sum_range, ← (finProdFinEquiv (m := 8) (n := 512)).sum_comp, Fintype.sum_prod_type]
  refine Finset.sum_congr rfl fun q _ => ?_
  rw [dif_pos (lt_of_lt_of_eq q.isLt h8.symm)]
  refine Finset.sum_congr rfl fun r _ => ?_
  have e : row ⟨q.val, lt_of_lt_of_eq q.isLt h8.symm⟩ r = finProdFinEquiv (m := 8) (n := 512) (q, r) :=
    Fin.ext (by simp [row, finProdFinEquiv]; omega)
  rw [e]

/-- After point `n` the squared error is the sum over the points up to it. -/
theorem sq_upto (n : ℕ) (h : n < cfg0.N) (i : S1x1024.Idx) :
    ((outsAt0 m c n h).2.1 : FVec Ideal S1x1024 .f32) i = ((∑ q ∈ Finset.range (n + 1),
      (if h : q < cfg0.N then ∑ r, er p (row ⟨q, h⟩ r) (i 1) * er p (row ⟨q, h⟩ r) (i 1) else 0) : ℝ) : EReal) := by
  induction n with
  | zero =>
    have e := congrFun (LossBlock.out5_first m c ⟨0, h⟩ rfl) i
    refine e.trans ((LossBlock.pay2 (ρ := row ⟨0, h⟩) (x_at _ L) (s_at _ L) (w_at L) (g_at _ L) (y_at _ L) _ i).trans ?_)
    rw [Finset.sum_range_one, dif_pos h]
    pointwise [k0_pay4]
  | succ n ih =>
    have h8 : cfg0.N = 8 := N_0
    have e := congrFun (LossBlock.out5_next m c ⟨n + 1, h⟩ (show ¬(n + 1) % 8 = 0 by omega)) i
    refine e.trans ((LossBlock.pay2 (ρ := row ⟨n + 1, h⟩) (x_at _ L) (s_at _ L) (w_at L) (g_at _ L) (y_at _ L) _ i).trans ?_)
    rw [Finset.sum_range_succ, EReal.coe_add, dif_pos h]
    exact congrArg (· + _) (ih (by omega))

/-- After point `n` the gain's cotangent is the sum over the points up to it. -/
theorem dgf_upto (n : ℕ) (h : n < cfg0.N) (i : S1x1024.Idx) :
    ((outsAt0 m c n h).2.2.1 : FVec Ideal S1x1024 .f32) i = ((∑ q ∈ Finset.range (n + 1),
      (if h : q < cfg0.N then ∑ r, dy p (row ⟨q, h⟩ r) (i 1) * xh (nf p) (row ⟨q, h⟩ r) (i 1) else 0) : ℝ) : EReal) := by
  induction n with
  | zero =>
    have e := congrFun (LossBlock.out6_first m c ⟨0, h⟩ rfl) i
    refine e.trans ((LossBlock.pay3 (ρ := row ⟨0, h⟩) (x_at _ L) (s_at _ L) (w_at L) (g_at _ L) (y_at _ L) _ i).trans ?_)
    rw [Finset.sum_range_one, dif_pos h]
    pointwise [k0_pay5]
  | succ n ih =>
    have h8 : cfg0.N = 8 := N_0
    have e := congrFun (LossBlock.out6_next m c ⟨n + 1, h⟩ (show ¬(n + 1) % 8 = 0 by omega)) i
    refine e.trans ((LossBlock.pay3 (ρ := row ⟨n + 1, h⟩) (x_at _ L) (s_at _ L) (w_at L) (g_at _ L) (y_at _ L) _ i).trans ?_)
    rw [Finset.sum_range_succ, EReal.coe_add, dif_pos h]
    exact congrArg (· + _) (ih (by omega))

theorem arr5 : (dats m 0 c).arrAt 5 cfg0.N = fun i : S1x1024.Idx => ((sq p (i 1) : ℝ) : EReal) := by
  refine (dats m 0 c).arrAt_eq_of_after_last 5 t0_7 (by decide +kernel) _ fun j => ?_
  blk_simp
  rw [after0_5]
  exact (sq_upto L 7 _ j).trans (congrArg _ (sum_rows fun r => er p r (j 1) * er p r (j 1)))

theorem arr6 : (dats m 0 c).arrAt 6 cfg0.N = fun i : S1x1024.Idx => ((dgf p (i 1) : ℝ) : EReal) := by
  refine (dats m 0 c).arrAt_eq_of_after_last 6 t0_7 (by decide +kernel) _ fun j => ?_
  blk_simp
  rw [after0_6]
  exact (dgf_upto L 7 _ j).trans (congrArg _ (sum_rows fun r => dy p r (j 1) * xh (nf p) r (j 1)))

end Cert.Proof.LossArrays

end
-- ==== Proof.LossClaims.lean ====
/- The claims about the loss head: the reference runs and keeps its arguments, and from finite arguments the call ends with the
   arrays that its reference ends with. -/
module

public import proofs.«01_k».proof.Defs
public import proofs.«01_k».proof.Proof.Finite
public import proofs.«01_k».proof.Proof.LossArrays
public import proofs.«01_k».proof.Proof.ForwardClaims
public import proofs.«01_k».proof.Proof.Gen.Pre_finite4
public import proofs.«01_k».proof.Proof.Gen.Kernel4Ideal.Frame
public import proofs.«01_k».proof.Proof.Gen.Reference4Ideal.Run

@[expose] public section

noncomputable section

namespace Cert.Proof.LossClaims

open Idealize.ShloMosaic Idealize.SL.Sem

/-- The reference runs, keeps its arguments, and ends quiescent. -/
theorem frame_reference4 : Cert.quiescent_Reference4Ideal (hReference4Ideal := Cert.Reference4Ideal.Gen.facts) :=
  fun m g _ =>
    (θ_run Cert.Reference4Ideal.defs _ _).mono (fun r h => ⟨fun c => (h c).2.2.2, sem_eq_zero_of_no_sems rfl r.2⟩)
      (Cert.Reference4Ideal.Value.run (F := Ideal) m g)

/-- The real numbers that the arguments of a memory are. -/
def args4 (m : (ℓ : Loc Cert.Kernel4Ideal.nD Cert.Kernel4Ideal.τ Cert.Kernel4Ideal.sig) → Buf (Elt Ideal) ℓ)
    (c : Dev Cert.Kernel4Ideal.nD) : LossModel.Args where
  S :=
    { U := fun _ _ => 0
      X := fun r j => EReal.toReal (m ((c.tc : Thread Cert.Kernel4Ideal.nD Cert.Kernel4Ideal.τ).loc Cert.Kernel4Ideal.main_arg0) (ix2 r j))
      G := fun j => EReal.toReal (m ((c.tc : Thread Cert.Kernel4Ideal.nD Cert.Kernel4Ideal.τ).loc Cert.Kernel4Ideal.main_arg1) (ix2 0 j))
      Wg := fun j k => EReal.toReal (m ((c.tc : Thread Cert.Kernel4Ideal.nD Cert.Kernel4Ideal.τ).loc Cert.Kernel4Ideal.main_arg2) (ix2 j k))
      Wu := fun j k => EReal.toReal (m ((c.tc : Thread Cert.Kernel4Ideal.nD Cert.Kernel4Ideal.τ).loc Cert.Kernel4Ideal.main_arg3) (ix2 j k))
      Wd := fun k j => EReal.toReal (m ((c.tc : Thread Cert.Kernel4Ideal.nD Cert.Kernel4Ideal.τ).loc Cert.Kernel4Ideal.main_arg4) (ix2 k j)) }
  Gf j := EReal.toReal (m ((c.tc : Thread Cert.Kernel4Ideal.nD Cert.Kernel4Ideal.τ).loc Cert.Kernel4Ideal.main_arg5) (ix2 0 j))
  T r j := EReal.toReal (m ((c.tc : Thread Cert.Kernel4Ideal.nD Cert.Kernel4Ideal.τ).loc Cert.Kernel4Ideal.main_arg6) (ix2 r j))

/-- Arguments that meet the precondition are those real numbers. -/
theorem holds4 {m : (ℓ : Loc Cert.Kernel4Ideal.nD Cert.Kernel4Ideal.τ Cert.Kernel4Ideal.sig) → Buf (Elt Ideal) ℓ}
    (h : Cert.Pre_Kernel4Ideal_finite4 (hPre_finite4 := Cert.Pre_finite4.Gen.facts) m) (c : Dev Cert.Kernel4Ideal.nD) :
    LossArrays.Holds m c (args4 m c) := by
  obtain ⟨h0, h1, h2, h3, h4, h5, h6⟩ := h c
  exact ⟨fun i => (Finite.entry h0 i).trans (Finite.at_index _ (eq_ix2 i)),
    fun i => (Finite.entry h1 i).trans (Finite.at_index _ (ForwardClaims.eq_row i)),
    fun i => (Finite.entry h2 i).trans (Finite.at_index _ (eq_ix2 i)),
    fun i => (Finite.entry h3 i).trans (Finite.at_index _ (eq_ix2 i)),
    fun i => (Finite.entry h4 i).trans (Finite.at_index _ (eq_ix2 i)),
    fun i => (Finite.entry h5 i).trans (Finite.at_index _ (ForwardClaims.eq_row i)),
    fun i => (Finite.entry h6 i).trans (Finite.at_index _ (eq_ix2 i))⟩

/-- From finite arguments both programs end with the three arrays that LossModel.lean names. -/
theorem algebraic4 : Cert.algebraic_Kernel4Ideal_Reference4Ideal_pre_finite4
    (hKernel4Ideal := Cert.Kernel4Ideal.Gen.facts) (hReference4Ideal := Cert.Reference4Ideal.Gen.facts)
    (hPre_finite4 := Cert.Pre_finite4.Gen.facts) := by
  intro m g m' g' hpre hag
  have L := fun c => holds4 hpre c
  have L' : ∀ c : Dev Cert.Reference4Ideal.nD, LossRef.Lifts (args4 m c)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6)) := fun c => by
    obtain ⟨e0, e1, e2, e3, e4, e5, e6⟩ := hag c
    rw [e0, e1, e2, e3, e4, e5, e6]
    exact L c
  refine ⟨fun c i => ((LossModel.dx (args4 m c) (i 0) (i 1) : ℝ) : EReal),
    fun c i => ((LossModel.sq (args4 m c) (i 1) : ℝ) : EReal),
    fun c i => ((LossModel.dgf (args4 m c) (i 1) : ℝ) : EReal), ?_, ?_⟩
  · exact (θ_run Cert.Kernel4Ideal.defs _ _).mono (fun r h c => ⟨(h c).1.trans (LossArrays.arr4 (L c)),
      (h c).2.1.trans (LossArrays.arr5 (L c)), (h c).2.2.1.trans (LossArrays.arr6 (L c)), (h c).2.2.2⟩)
      (Cert.Kernel4Ideal.Value.run_blocks (F := Ideal) m g)
  · exact (θ_run Cert.Reference4Ideal.defs _ _).mono (fun r h c => ⟨
      (h c).1.trans ((Cert.Reference4Ideal.Read.val_main_v68_eq m' c).trans (funext (LossRef.v68 (L' c)))),
      (h c).2.1.trans ((Cert.Reference4Ideal.Read.val_main_v84_eq m' c).trans (funext (LossRef.v84 (L' c)))),
      (h c).2.2.1.trans ((Cert.Reference4Ideal.Read.val_main_v52_eq m' c).trans (funext (LossRef.v52 (L' c)))),
      (h c).2.2.2⟩) (Cert.Reference4Ideal.Value.run (F := Ideal) m' g')

end Cert.Proof.LossClaims

end
-- ==== Proof.AdamArrays.lean ====
/- The optimiser's call: its four result arrays after its run are the reference's, entry by entry. The two programs do the
   same operations in the same order on each entry, so no precondition is needed. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamArrays

open Idealize.ShloMosaic Idealize.SL.Sem Cert.Kernel5Ideal Cert.Kernel5Ideal.Gen

/-! ## One entry -/

/-- A constant. -/
abbrev lit (b : BitVec 32) : Ideal .f32 := FloatOps.ofBits .f32 b

/-- The first moment after the step, from the gradient and the moment before. -/
def newM (g m : Ideal .f32) : Ideal .f32 :=
  FloatOps.addf (FloatOps.mulf (lit 0x3F666666#32) m) (FloatOps.mulf (lit 0x3DCCCCCD#32) g)

/-- The second moment after the step. -/
def newV (g v : Ideal .f32) : Ideal .f32 :=
  FloatOps.addf (FloatOps.mulf (lit 0x3F7FBE77#32) v) (FloatOps.mulf (lit 0x3A83126F#32) (FloatOps.mulf g g))

/-- The weight's change. -/
def delta (w g m v : Ideal .f32) : Ideal .f32 :=
  FloatOps.mulf (lit 0xBA83126F#32)
    (FloatOps.addf
      (FloatOps.divf (FloatOps.divf (newM g m) (lit 0x3F26BD02#32))
        (FloatOps.addf (FloatOps.sqrt (FloatOps.divf (newV g v) (lit 0x3C231ACC#32))) (lit 0x322BCC77#32)))
      (FloatOps.mulf (lit 0x3C23D70A#32) w))

/-! ## One block -/

theorem pay1 (g m : FVec Ideal S352x1024 .f32) (i : S352x1024.Idx) :
    k0_pay1 (F := Ideal) g m i = newM (g i) (m i) := rfl

theorem pay2 (g v : FVec Ideal S352x1024 .f32) (i : S352x1024.Idx) :
    k0_pay2 (F := Ideal) g v i = newV (g i) (v i) := rfl

theorem pay3 (g w m v : FVec Ideal S352x1024 .f32) (i : S352x1024.Idx) :
    k0_pay3 (F := Ideal) g w m v i = delta (w i) (g i) (m i) (v i) := rfl

/-- One piece over the whole of a block is the block. -/
theorem canon_full (w : FVec Ideal S352x1024 .f32) :
    View.canon [(⟨r0_0, w⟩ : View.Piece (Elt Ideal) S352x1024 .f32)] = w :=
  View.canon_unit_zero (Val := Elt Ideal) (e := .f32) (funext fun a => by fin_cases a <;> rfl) _ w

/-- A load of the whole of a block is the block. -/
theorem ld_full (w : FVec Ideal S352x1024 .f32) : View.ld (Val := Elt Ideal) (e' := .f32) w r0_0 = w :=
  View.ld_unit_zero (Val := Elt Ideal) (e := .f32) (funext fun a => by fin_cases a <;> rfl) _ w

variable (x0 x1 x2 x3 : FVec Ideal S352x1024 .f32)

theorem out4 : out0_4 (F := Ideal) x0 x1 x2 x3 = x1 := by
  unfold out0_4; rw [ld_full]; exact canon_full x1

theorem out5 : out0_5 (F := Ideal) x0 x1 x2 x3 = k0_pay3 (F := Ideal) x1 x0 x2 x3 := by
  unfold out0_5; rw [ld_full, ld_full, ld_full, ld_full]; exact canon_full _

theorem out6 : out0_6 (F := Ideal) x0 x1 x2 x3 = k0_pay1 (F := Ideal) x1 x2 := by
  unfold out0_6; rw [ld_full, ld_full]; exact canon_full _

theorem out7 : out0_7 (F := Ideal) x0 x1 x2 x3 = k0_pay2 (F := Ideal) x1 x3 := by
  unfold out0_7; rw [ld_full, ld_full]; exact canon_full _

/-! ## The reference at an entry -/

section Ref

open Cert.Reference5Ideal.Read

variable (w g a b : FVec Ideal S704x1024 .f32) (i : S704x1024.Idx)

theorem ref_m : val_main_v4 (F := Ideal) g a i = newM (g i) (a i) := by
  rw [val_main_v4_apply, val_main_v1_apply, val_main_v0_apply, val_main_v3_apply, val_main_v2_apply]
  rfl

theorem ref_v : val_main_v10 (F := Ideal) g b i = newV (g i) (b i) := by
  rw [val_main_v10_apply, val_main_v6_apply, val_main_v5_apply, val_main_v9_apply, val_main_v8_apply, val_main_v7_apply]
  rfl

theorem ref_d : val_main_v23 (F := Ideal) w g a b i = delta (w i) (g i) (a i) (b i) := by
  rw [val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, ref_m, ref_v]
  rfl

end Ref

/-! ## The arrays -/

variable (m : (ℓ : Loc nD τ sig) → Buf (Elt Ideal) ℓ) (c : Dev nD) (t : Fin cfg0.N)

/-- Row `r` of point `t`'s block, as a row of the arrays. -/
def row (t : Fin cfg0.N) (r : Fin 352) : Fin 704 :=
  ⟨352 * t.val + r.val, by have h := lt_of_lt_of_eq t.isLt (show cfg0.N = 2 from N_0); omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

/-- The launched arguments. -/
abbrev W : FVec Ideal S704x1024 .f32 := m ((c.tc : Thread nD τ).loc main_arg0)
abbrev G : FVec Ideal S704x1024 .f32 := m ((c.tc : Thread nD τ).loc main_arg1)
abbrev M : FVec Ideal S704x1024 .f32 := m ((c.tc : Thread nD τ).loc main_arg2)
abbrev B : FVec Ideal S704x1024 .f32 := m ((c.tc : Thread nD τ).loc main_arg3)

theorem blk0 (i : S352x1024.Idx) :
    (iblk m c 0 t : FVec Ideal S352x1024 .f32) i = (V m c main_arg0 : FVec Ideal S704x1024 .f32) (ix2 (row t (i 0)) (i 1)) := by
  unfold row; blk_ext [iblk, idx0 t]

theorem w_at (i : S352x1024.Idx) : (iblk m c 0 t : FVec Ideal S352x1024 .f32) i = W m c (ix2 (row t (i 0)) (i 1)) := by
  rw [blk0, V_main_arg0]

theorem blk1 (i : S352x1024.Idx) :
    (iblk m c 1 t : FVec Ideal S352x1024 .f32) i = (V m c main_arg1 : FVec Ideal S704x1024 .f32) (ix2 (row t (i 0)) (i 1)) := by
  unfold row; blk_ext [iblk, idx1 t]

theorem g_at (i : S352x1024.Idx) : (iblk m c 1 t : FVec Ideal S352x1024 .f32) i = G m c (ix2 (row t (i 0)) (i 1)) := by
  rw [blk1, V_main_arg1]

theorem blk2 (i : S352x1024.Idx) :
    (iblk m c 2 t : FVec Ideal S352x1024 .f32) i = (V m c main_arg2 : FVec Ideal S704x1024 .f32) (ix2 (row t (i 0)) (i 1)) := by
  unfold row; blk_ext [iblk, idx2 t]

theorem m_at (i : S352x1024.Idx) : (iblk m c 2 t : FVec Ideal S352x1024 .f32) i = M m c (ix2 (row t (i 0)) (i 1)) := by
  rw [blk2, V_main_arg2]

theorem blk3 (i : S352x1024.Idx) :
    (iblk m c 3 t : FVec Ideal S352x1024 .f32) i = (V m c main_arg3 : FVec Ideal S704x1024 .f32) (ix2 (row t (i 0)) (i 1)) := by
  unfold row; blk_ext [iblk, idx3 t]

theorem b_at (i : S352x1024.Idx) : (iblk m c 3 t : FVec Ideal S352x1024 .f32) i = B m c (ix2 (row t (i 0)) (i 1)) := by
  rw [blk3, V_main_arg3]

/-- The gradient is handed on. -/
theorem arr4 : (dats m 0 c).arrAt 4 cfg0.N = G m c := by
  refine (dats m 0 c).arrAt_eq_of_covers 4 _ (by decide +kernel) fun t hf y => ?_
  blk_simp
  rw [after0_4, out4]
  refine (g_at m c t y).trans ?_
  have e : (win0_4.blk t).view.emb y = ix2 (row t (y 0)) (y 1) := by unfold row; blk_ext [idx4 t]
  rw [e]; rfl

/-- The weight's change. -/
theorem arr5 : (dats m 0 c).arrAt 5 cfg0.N
    = Cert.Reference5Ideal.Read.val_main_v23 (F := Ideal) (W m c) (G m c) (M m c) (B m c) := by
  refine (dats m 0 c).arrAt_eq_of_covers 5 _ (by decide +kernel) fun t hf y => ?_
  blk_simp
  rw [after0_5, out5]
  refine (pay3 _ _ _ _ y).trans ?_
  rw [w_at, g_at, m_at, b_at]
  have e : (win0_5.blk t).view.emb y = ix2 (row t (y 0)) (y 1) := by unfold row; blk_ext [idx5 t]
  rw [e]
  exact (ref_d _ _ _ _ _).symm

/-- The first moment. -/
theorem arr6 : (dats m 0 c).arrAt 6 cfg0.N = Cert.Reference5Ideal.Read.val_main_v4 (F := Ideal) (G m c) (M m c) := by
  refine (dats m 0 c).arrAt_eq_of_covers 6 _ (by decide +kernel) fun t hf y => ?_
  blk_simp
  rw [after0_6, out6]
  refine (pay1 _ _ y).trans ?_
  rw [g_at, m_at]
  have e : (win0_6.blk t).view.emb y = ix2 (row t (y 0)) (y 1) := by unfold row; blk_ext [idx6 t]
  rw [e]
  exact (ref_m _ _ _).symm

/-- The second moment. -/
theorem arr7 : (dats m 0 c).arrAt 7 cfg0.N = Cert.Reference5Ideal.Read.val_main_v10 (F := Ideal) (G m c) (B m c) := by
  refine (dats m 0 c).arrAt_eq_of_covers 7 _ (by decide +kernel) fun t hf y => ?_
  blk_simp
  rw [after0_7, out7]
  refine (pay2 _ _ y).trans ?_
  rw [g_at, b_at]
  have e : (win0_7.blk t).view.emb y = ix2 (row t (y 0)) (y 1) := by unfold row; blk_ext [idx7 t]
  rw [e]
  exact (ref_v _ _ _).symm

end Cert.Proof.AdamArrays

end
-- ==== Proof.AdamClaims.lean ====
/- The claims about the optimiser's call: the reference runs and keeps its arguments, and the call ends with the four arrays
   that its reference ends with. -/
module

public import proofs.«01_k».proof.Defs
public import proofs.«01_k».proof.Proof.AdamArrays
public import proofs.«01_k».proof.Proof.Gen.Kernel5Ideal.Frame
public import proofs.«01_k».proof.Proof.Gen.Reference5Ideal.Run
public import Idealize.ShloMosaic.Adequacy
public import Idealize.ShloMosaic.Init

@[expose] public section

noncomputable section

namespace Cert.Proof.AdamClaims

open Idealize.ShloMosaic Idealize.SL.Sem

/-- The reference runs, keeps its arguments, and ends quiescent. -/
theorem frame_reference5 : Cert.quiescent_Reference5Ideal (hReference5Ideal := Cert.Reference5Ideal.Gen.facts) :=
  fun m g _ =>
    (θ_run Cert.Reference5Ideal.defs _ _).mono (fun r h => ⟨fun c => (h c).2.2.2.2, sem_eq_zero_of_no_sems rfl r.2⟩)
      (Cert.Reference5Ideal.Value.run (F := Ideal) m g)

/-- Both programs end with the gradient, the weight's change and the two moments. -/
theorem algebraic5 : Cert.algebraic_Kernel5Ideal_Reference5Ideal (hKernel5Ideal := Cert.Kernel5Ideal.Gen.facts)
    (hReference5Ideal := Cert.Reference5Ideal.Gen.facts) := by
  intro m g m' g' _ hag
  refine ⟨fun c => AdamArrays.G m c,
    fun c => Cert.Reference5Ideal.Read.val_main_v23 (F := Ideal) (AdamArrays.W m c) (AdamArrays.G m c) (AdamArrays.M m c)
      (AdamArrays.B m c),
    fun c => Cert.Reference5Ideal.Read.val_main_v4 (F := Ideal) (AdamArrays.G m c) (AdamArrays.M m c),
    fun c => Cert.Reference5Ideal.Read.val_main_v10 (F := Ideal) (AdamArrays.G m c) (AdamArrays.B m c), ?_, ?_⟩
  · exact (θ_run Cert.Kernel5Ideal.defs _ _).mono (fun r h c => ⟨(h c).1.trans (AdamArrays.arr4 m c),
      (h c).2.1.trans (AdamArrays.arr5 m c), (h c).2.2.1.trans (AdamArrays.arr6 m c),
      (h c).2.2.2.1.trans (AdamArrays.arr7 m c), (h c).2.2.2.2⟩) (Cert.Kernel5Ideal.Value.run_blocks (F := Ideal) m g)
  · refine (θ_run Cert.Reference5Ideal.defs _ _).mono (fun r h c => ?_) (Cert.Reference5Ideal.Value.run (F := Ideal) m' g')
    obtain ⟨e0, e1, e2, e3⟩ := hag c
    obtain ⟨r1, r2, r3, r4, k⟩ := h c
    refine ⟨r1.trans e1, ?_, ?_, ?_, k⟩
    · refine r2.trans ((Cert.Reference5Ideal.Read.val_main_v23_eq _ _ _ _).trans ?_)
      rw [e0, e1, e2, e3]
    · refine r3.trans ((Cert.Reference5Ideal.Read.val_main_v4_eq _ _).trans ?_)
      rw [e1, e2]
    · refine r4.trans ((Cert.Reference5Ideal.Read.val_main_v10_eq _ _).trans ?_)
      rw [e1, e3]

end Cert.Proof.AdamClaims

end
-- ==== Proof.MixerFirst.lean ====
/- The mixer's forward call, its body at the first grid step: the weights are copied into scratch (the output weight in
   four parts of one scratch, each transfer lent its own part only), then the block is worked. What each buffer is left
   with is found by running the body. -/
module

public import proofs.«01_k».proof.Proof.Gen.Kernel6Ideal.Frame.Runs

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option sl_exec.dmaWindow true in
set_option sl_exec.dmaWindowSet true in
set_option sl_exec.dmaWindowLent true in
set_option maxHeartbeats 2000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) :
    Σ' (L5 : List (View.Piece (Elt F) S512x1024 .f32)), Σ' (L6 : List (View.Piece (Elt F) S512x2048 .bf16)), Σ' (L7 : List (View.Piece (Elt F) S512x1024 .bf16)), Σ' (LS0 : List (View.Piece (Elt F) S2048x1024 .bf16)), Σ' (LS1 : List (View.Piece (Elt F) S1024x1024 .bf16)), Σ' (LS2 : List (View.Piece (Elt F) S520x512 .f32)), Σ' (LS3 : List (View.Piece (Elt F) S544x512 .f32)), { LT4 : List (View.Piece (Elt F) S3x544x128 .f32) //
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LT4) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mixer_forward i arg1 harg1 arg2 harg2 (Memref.whole main_v5) (Memref.isWhole_whole _) (Memref.whole main_v3) (Memref.isWhole_whole _) arg5 harg5 arg6 harg6 arg7 harg7 arg8 harg8 arg9 harg9 arg10 harg10 arg11 harg11 arg12 harg12 arg13 harg13 arg14 harg14 arg15 harg15 cc0_scratch5) K } := by
  refine ⟨?_, ?_, ?_, ?_, ?_, ?_, ?_, ?_, fun W K => ?run⟩
  case run =>
    simp only [cc0_mixer_forward_eq_skeleton]; unfold cc0_mixer_forward_skel
    simp only [k0_part2_eq_skeleton, k0_part1_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hh0, Hh1, HW, Hk⟩
    obtain rfl := harg1.eq_unread hf0; obtain rfl := harg2.eq_unread hf1; obtain rfl := harg5.eq_unread hf2; obtain rfl := harg6.eq_unread hf3; obtain rfl := harg7.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    iexists _; iexact HW

end Cert.Kernel6Ideal.Gen

end
-- ==== Proof.MixerRest.lean ====
/- The mixer's forward call, its body at every later grid step: the weights are in scratch, and the last rows of the step
   before are kept for the convolution and the pooling. -/
module

public import proofs.«01_k».proof.Proof.MixerFirst

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) :
    Σ' (L5 : List (View.Piece (Elt F) S512x1024 .f32)), Σ' (L6 : List (View.Piece (Elt F) S512x2048 .bf16)), Σ' (L7 : List (View.Piece (Elt F) S512x1024 .bf16)), Σ' (LS0 : List (View.Piece (Elt F) S2048x1024 .bf16)), Σ' (LS1 : List (View.Piece (Elt F) S1024x1024 .bf16)), Σ' (LS2 : List (View.Piece (Elt F) S520x512 .f32)), Σ' (LS3 : List (View.Piece (Elt F) S544x512 .f32)), { LT4 : List (View.Piece (Elt F) S3x544x128 .f32) //
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ (∃ d, owns (c : Thread nD τ) arg15 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LT4) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mixer_forward i arg1 harg1 arg2 harg2 (Memref.whole main_v5) (Memref.isWhole_whole _) (Memref.whole main_v3) (Memref.isWhole_whole _) arg5 harg5 arg6 harg6 arg7 harg7 arg8 harg8 arg9 harg9 arg10 harg10 arg11 harg11 arg12 harg12 arg13 harg13 arg14 harg14 arg15 harg15 cc0_scratch5) K } := by
  refine ⟨?_, ?_, ?_, [], [], ?_, ?_, ?_, fun W K => ?run⟩
  case run =>
    simp only [cc0_mixer_forward_eq_skeleton]; unfold cc0_mixer_forward_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%ds4, %fs4, -, HS4⟩, Hq0, Hq1, Hq2, Hq3, Hq4, Hh0, Hh1, HW, Hk⟩
    obtain rfl := harg1.eq_unread hf0; obtain rfl := harg2.eq_unread hf1; obtain rfl := harg5.eq_unread hf2; obtain rfl := harg6.eq_unread hf3; obtain rfl := harg7.eq_unread hf4; obtain rfl := harg11.eq_unread hfs0; obtain rfl := harg12.eq_unread hfs1; obtain rfl := harg13.eq_unread hfs2; obtain rfl := harg14.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    iexists _; iexact HW

end Cert.Kernel6Ideal.Gen

end
-- ==== Proof.MixerFrame.lean ====
/- The mixer's forward call: what its results and its scratch hold after each grid step, the run of all the steps, and
   the frame, over any float values. -/
module

public import proofs.«01_k».proof.Proof.MixerRest
public import Idealize.ShloMosaic.Lib.Claim

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 5 tile its block (1 store of `S512x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) (y : S512x1024.Idx) :
    ∃ pc ∈ (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).1, y ∈ pc.1.set :=
  View.cover_of_tiledL (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).1 S512x1024.size (by sl_kernel_rfl) y

/-- What case A leaves in output 5's staging buffer: its pieces read back over junk. -/
def out0_A_5 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) : Vec F S512x1024 .f32 :=
  VO0_5.read (Elt F) (VO0_5.writes (Elt F) VO0_5.junk (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).1)

/-- Case A's pieces for output 6 tile its block (4 stores of `S512x512`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) (y : S512x2048.Idx) :
    ∃ pc ∈ (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.1, y ∈ pc.1.set :=
  View.cover_of_tiledL (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.1 S512x512.size (by sl_kernel_rfl) y

/-- What case A leaves in output 6's staging buffer: its pieces read back over junk. -/
def out0_A_6 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) : Vec F S512x2048 .bf16 :=
  VO0_6.read (Elt F) (VO0_6.writes (Elt F) VO0_6.junk (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.1)

/-- Case A's pieces for output 7 are of SEVERAL sizes (5 stores of `S512x128`, `S512x512`): cut into blocks of `![512, 128]` they tile its block (checked by the kernel's evaluation: Lib/Ring.lean `Piece.tiledBy`), so they cover it. -/
theorem cover0_A_7 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) (y : S512x1024.Idx) :
    ∃ pc ∈ (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.1, y ∈ pc.1.set :=
  View.cover_of_tiledBy (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.1 ![512, 128] (by sl_kernel_rfl) y

/-- What case A leaves in output 7's staging buffer: its pieces read back over junk. -/
def out0_A_7 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) : Vec F S512x1024 .bf16 :=
  VO0_7.read (Elt F) (VO0_7.writes (Elt F) VO0_7.junk (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.1)

/-- Case A's pieces for scratch `arg11`, which the kernel carries between points, cover it: 1 piece of `S2048x1024` tiling it (Lib/Ring.lean `Piece.tiledL`). -/
theorem scover0_A_0 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) (y : S2048x1024.Idx) :
    ∃ pc ∈ (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.1, y ∈ pc.1.set :=
  View.cover_of_tiledL (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.1 S2048x1024.size (by sl_kernel_rfl) y

/-- What case A leaves in scratch `arg11`: its pieces read back over junk. -/
def sout0_A_0 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) : Vec F S2048x1024 .bf16 :=
  VS0_0.read (Elt F) (VS0_0.writes (Elt F) VS0_0.junk (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.1)

/-- Case A's pieces for scratch `arg12`, which the kernel carries between points, cover it: 4 pieces of `S256x1024` tiling it (Lib/Ring.lean `Piece.tiledL`). -/
theorem scover0_A_1 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) (y : S1024x1024.Idx) :
    ∃ pc ∈ (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.1, y ∈ pc.1.set :=
  View.cover_of_tiledL (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.1 S256x1024.size (by sl_kernel_rfl) y

/-- What case A leaves in scratch `arg12`: its pieces read back over junk. -/
def sout0_A_1 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) : Vec F S1024x1024 .bf16 :=
  VS0_1.read (Elt F) (VS0_1.writes (Elt F) VS0_1.junk (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.1)

/-- Case A's pieces for scratch `arg13`, which the kernel carries between points, cover it: 3 pieces (stores and landed copies) of several sizes (`S512x512`, `S8x512`) tiling it when cut into blocks of `![8, 512]` (Lib/Ring.lean `Piece.tiledBy`). -/
theorem scover0_A_2 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) (y : S520x512.Idx) :
    ∃ pc ∈ (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.2.1, y ∈ pc.1.set :=
  View.cover_of_tiledBy (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.2.1 ![8, 512] (by sl_kernel_rfl) y

/-- What case A leaves in scratch `arg13`: its pieces read back over junk. -/
def sout0_A_2 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) : Vec F S520x512 .f32 :=
  VS0_2.read (Elt F) (VS0_2.writes (Elt F) VS0_2.junk (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.2.1)

/-- Case A's pieces for scratch `arg14`, which the kernel carries between points, cover it: 3 pieces (stores and landed copies) of several sizes (`S32x512`, `S512x512`) tiling it when cut into blocks of `![32, 512]` (Lib/Ring.lean `Piece.tiledBy`). -/
theorem scover0_A_3 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) (y : S544x512.Idx) :
    ∃ pc ∈ (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.2.2.1, y ∈ pc.1.set :=
  View.cover_of_tiledBy (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.2.2.1 ![32, 512] (by sl_kernel_rfl) y

/-- What case A leaves in scratch `arg14`: its pieces read back over junk. -/
def sout0_A_3 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : cond0_0 i)
    (x0 : Vec F S512x1024 .f32) (x1 : Vec F S1x1024 .f32) (x2 : Vec F S3x512 .f32) (x3 : Vec F S4x128x128 .f32) (x4 : Vec F S1x512 .f32) (fh0 : HbBuf0 (F := F) c hbM0_0) (fh1 : HbBuf0 (F := F) c hbM0_1) : Vec F S544x512 .f32 :=
  VS0_3.read (Elt F) (VS0_3.writes (Elt F) VS0_3.junk (kernelRun0_A c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 fh0 fh1).2.2.2.2.2.2.1)

/-- Case B's pieces for output 5 tile its block (1 store of `S512x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) (y : S512x1024.Idx) :
    ∃ pc ∈ (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).1, y ∈ pc.1.set :=
  View.cover_of_tiledL (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).1 S512x1024.size (by sl_kernel_rfl) y

/-- What case B leaves in output 5's staging buffer: its pieces read back over junk. -/
def out0_B_5 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) : Vec F S512x1024 .f32 :=
  VO0_5.read (Elt F) (VO0_5.writes (Elt F) VO0_5.junk (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).1)

/-- Case B's pieces for output 6 tile its block (4 stores of `S512x512`, checked by the kernel's evaluation: Lib/Ring.lean `Piece.tiledL`, linear in the pieces, through a loop's `@[irreducible]` trip theorem too), so they cover it. -/
theorem cover0_B_6 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) (y : S512x2048.Idx) :
    ∃ pc ∈ (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.1, y ∈ pc.1.set :=
  View.cover_of_tiledL (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.1 S512x512.size (by sl_kernel_rfl) y

/-- What case B leaves in output 6's staging buffer: its pieces read back over junk. -/
def out0_B_6 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) : Vec F S512x2048 .bf16 :=
  VO0_6.read (Elt F) (VO0_6.writes (Elt F) VO0_6.junk (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.1)

/-- Case B's pieces for output 7 are of SEVERAL sizes (5 stores of `S512x128`, `S512x512`): cut into blocks of `![512, 128]` they tile its block (checked by the kernel's evaluation: Lib/Ring.lean `Piece.tiledBy`), so they cover it. -/
theorem cover0_B_7 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) (y : S512x1024.Idx) :
    ∃ pc ∈ (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.1, y ∈ pc.1.set :=
  View.cover_of_tiledBy (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.1 ![512, 128] (by sl_kernel_rfl) y

/-- What case B leaves in output 7's staging buffer: its pieces read back over junk. -/
def out0_B_7 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) : Vec F S512x1024 .bf16 :=
  VO0_7.read (Elt F) (VO0_7.writes (Elt F) VO0_7.junk (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.1)

/-- Case B stores nothing into scratch `arg11`: it holds what the point before left. -/
def sout0_B_0 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) : Vec F S2048x1024 .bf16 := xs0

/-- Case B stores nothing into scratch `arg12`: it holds what the point before left. -/
def sout0_B_1 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) : Vec F S1024x1024 .bf16 := xs1

/-- Case B's pieces for scratch `arg13`, which the kernel carries between points, cover it: 2 pieces (stores and landed copies) of several sizes (`S512x512`, `S8x512`) tiling it when cut into blocks of `![8, 512]` (Lib/Ring.lean `Piece.tiledBy`). -/
theorem scover0_B_2 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) (y : S520x512.Idx) :
    ∃ pc ∈ (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.2.2.2.1, y ∈ pc.1.set :=
  View.cover_of_tiledBy (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.2.2.2.1 ![8, 512] (by sl_kernel_rfl) y

/-- What case B leaves in scratch `arg13`: its pieces read back over junk. -/
def sout0_B_2 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) : Vec F S520x512 .f32 :=
  VS0_2.read (Elt F) (VS0_2.writes (Elt F) VS0_2.junk (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.2.2.2.1)

/-- Case B's pieces for scratch `arg14`, which the kernel carries between points, cover it: 2 pieces (stores and landed copies) of several sizes (`S32x512`, `S512x512`) tiling it when cut into blocks of `![32, 512]` (Lib/Ring.lean `Piece.tiledBy`). -/
theorem scover0_B_3 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) (y : S544x512.Idx) :
    ∃ pc ∈ (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.2.2.2.2.1, y ∈ pc.1.set :=
  View.cover_of_tiledBy (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.2.2.2.2.1 ![32, 512] (by sl_kernel_rfl) y

/-- What case B leaves in scratch `arg14`: its pieces read back over junk. -/
def sout0_B_3 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S3x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x1024 .f32) (harg8 : arg8.IsWhole) (arg9 : Memref sig .tc .vmem S512x2048 .bf16) (harg9 : arg9.IsWhole) (arg10 : Memref sig .tc .vmem S512x1024 .bf16) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S520x512 .f32) (harg13 : arg13.IsWhole) (arg14 : Memref sig .tc .vmem S544x512 .f32) (harg14 : arg14.IsWhole) (arg15 : Memref sig .tc .vmem S3x544x128 .f32) (harg15 : arg15.IsWhole) (hc0 : ¬cond0_0 i)
    (x0 : Vec F S512x1024 .f32) (x1 : Vec F S1x1024 .f32) (x2 : Vec F S3x512 .f32) (x3 : Vec F S4x128x128 .f32) (x4 : Vec F S1x512 .f32) (xs0 : Vec F S2048x1024 .bf16) (xs1 : Vec F S1024x1024 .bf16) (xs2 : Vec F S520x512 .f32) (xs3 : Vec F S544x512 .f32) (fh0 : HbBuf0 (F := F) c hbM0_0) (fh1 : HbBuf0 (F := F) c hbM0_1) : Vec F S544x512 .f32 :=
  VS0_3.read (Elt F) (VS0_3.writes (Elt F) VS0_3.junk (kernelRun0_B c i arg1 harg1 arg2 harg2 arg5 harg5 arg6 harg6 arg7 harg7 arg8 harg8 arg9 harg9 arg10 harg10 arg11 harg11 arg12 harg12 arg13 harg13 arg14 harg14 arg15 harg15 hc0 x0 x1 x2 x3 x4 xs0 xs1 xs2 xs3 fh0 fh1).2.2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x2048 .bf16 × Vec F S512x1024 .bf16 × Vec F S2048x1024 .bf16 × Vec F S1024x1024 .bf16 × Vec F S520x512 .f32 × Vec F S544x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v5) (V m c main_v3), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v5) (V m c main_v3), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v5) (V m c main_v3), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v5) (V m c main_v3), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v5) (V m c main_v3), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v5) (V m c main_v3), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v5) (V m c main_v3))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v5) (V m c main_v3), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v5) (V m c main_v3), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v5) (V m c main_v3), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v5) (V m c main_v3), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v5) (V m c main_v3), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v5) (V m c main_v3), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v5) (V m c main_v3))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (V m c main_v5) (V m c main_v3), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (V m c main_v5) (V m c main_v3), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (V m c main_v5) (V m c main_v3), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (V m c main_v5) (V m c main_v3), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (V m c main_v5) (V m c main_v3), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (V m c main_v5) (V m c main_v3), sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (V m c main_v5) (V m c main_v3))

/-- `outsAt0` at a point of case A: that case's contents. -/
theorem outsAt0_A (c : Dev nD) (t : Fin cfg0.N) (h0 : t.val % 8 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3), sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2) ∗ (∃ d, owns (c : Thread nD τ) scM0_4 fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v5) ∗ hbPt0 c hbM0_1 (V m c main_v3)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2) ∗ (∃ d, owns (c : Thread nD τ) scM0_4 fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v5) ∗ hbPt0 c hbM0_1 (V m c main_v3))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2.1) ∗ owns (c : Thread nD τ) scM0_3 fullShare ((outsAt0 m c (n - 1) (by omega)).2.2.2.2.2.2) ∗ (∃ d, owns (c : Thread nD τ) scM0_4 fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v5) ∗ hbPt0 c hbM0_1 (V m c main_v3))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      rw [outsAt0_A m c t h0]
      unfold out0_A_5 out0_A_6 out0_A_7 sout0_A_0 sout0_A_1 sout0_A_2 sout0_A_3; (try dsimp only)
      iintro ⟨⟨⟨HS0, HS1, HS2, HS3, HS4⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_v5) (V m c main_v3)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      isplitl [Hh1]; · iexact Hh1
      isplitl [HW]; · iexact HW
      iintro ⟨H0, H1, H2, H3, H4, ⟨%e5, H5⟩, ⟨%e6, H6⟩, ⟨%e7, H7⟩, ⟨%es0, HS0⟩, ⟨%es1, HS1⟩, ⟨%es2, HS2⟩, ⟨%es3, HS3⟩, ⟨%fT4, HS4⟩, Hq0, Hq1, Hq2, Hq3, Hq4, Hh0, Hh1, ⟨%W', HW'⟩⟩
      isplitl [HS0 HS1 HS2 HS3 HS4 Hg Hq0 Hq1 Hq2 Hq3 Hq4 Hh0 Hh1]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _)
          iexists _; unfold owns; iexists _; isplitr
          swap; · iexact HS4
          ipureintro; rfl
        isplitl [Hg]
        · iexact Hg
        isplitl [Hq0 Hq1 Hq2 Hq3 Hq4]
        · isplitl [Hq0]; · iexact Hq0
          isplitl [Hq1]; · iexact Hq1
          isplitl [Hq2]; · iexact Hq2
          isplitl [Hq3]; · iexact Hq3
          iexact Hq4
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_5 out0_B_6 out0_B_7 sout0_B_0 sout0_B_1 sout0_B_2 sout0_B_3; (try dsimp only)
      iintro ⟨⟨⟨HS0, HS1, HS2, HS3, HS4⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ (V m c main_v5) (V m c main_v3)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      isplitl [Hh1]; · iexact Hh1
      isplitl [HW]; · iexact HW
      iintro ⟨H0, H1, H2, H3, H4, ⟨%e5, H5⟩, ⟨%e6, H6⟩, ⟨%e7, H7⟩, HS0, HS1, ⟨%es2, HS2⟩, ⟨%es3, HS3⟩, ⟨%fT4, HS4⟩, Hq0, Hq1, Hq2, Hq3, Hq4, Hh0, Hh1, ⟨%W', HW'⟩⟩
      isplitl [HS0 HS1 HS2 HS3 HS4 Hg Hq0 Hq1 Hq2 Hq3 Hq4 Hh0 Hh1]
      · isplitl [HS0 HS1 HS2 HS3 HS4]
        · isplitl [HS0]; · iexact HS0
          isplitl [HS1]; · iexact HS1
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _)
          iexists _; unfold owns; iexists _; isplitr
          swap; · iexact HS4
          ipureintro; rfl
        isplitl [Hg]
        · iexact Hg
        isplitl [Hq0 Hq1 Hq2 Hq3 Hq4]
        · isplitl [Hq0]; · iexact Hq0
          isplitl [Hq1]; · iexact Hq1
          isplitl [Hq2]; · iexact Hq2
          isplitl [Hq3]; · iexact Hq3
          iexact Hq4
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, ⟨Hq0, Hq1, Hq2, Hq3, Hq4⟩, ⟨Hh0, Hh1⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 8 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel6Ideal`'s statement (Defs.lean) at any `F` — Proof.lean cites it at `Bits`:
    `theorem Cert.Proof.claim : Cert.Claim := ⟨Cert.Kernel6Ideal.Gen.facts, fun m ρ _ => Cert.Kernel6Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel6Ideal.Gen

end
-- ==== Proof.MixerValue.lean ====
/- The mixer's forward call: its three results read block by block, and what the scratch kept between the steps holds. -/
module

public import proofs.«01_k».proof.Proof.MixerFrame
public import Idealize.ShloMosaic.Lib.Pipeline.Value

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 8 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 8 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3)) := by
  simp only [flushed5, outsAt0_B m c t h0]

/-- The index map sends distinct grid points to distinct block indices (decided over the 8 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4096x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 8 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 8 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3)) := by
  simp only [flushed6, outsAt0_B m c t h0]

/-- The index map sends distinct grid points to distinct block indices (decided over the 8 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4096x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 8 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v5) (V m c main_v3)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 8 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v5) (V m c main_v3)) := by
  simp only [flushed7, outsAt0_B m c t h0]

/-- The index map sends distinct grid points to distinct block indices (decided over the 8 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4096x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v6_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v6_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v6_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S2048x1024 .bf16) : Vec F S2048x1024 .bf16 :=
  if h0 : n % 8 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v5) (V m c main_v3)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2 (V m c main_v5) (V m c main_v3)

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2.2.2.1) 8 (fun n h => scAt0_0 m c n h (VS0_0.read (Elt F) VS0_0.junk)) (scAt0_0 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S1024x1024 .bf16) : Vec F S1024x1024 .bf16 :=
  if h0 : n % 8 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v5) (V m c main_v3)
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2 (V m c main_v5) (V m c main_v3)

/-- WHAT CARRIED SCRATCH 1 HOLDS after point `t`: the fold of its run up to `t`, from the reset at the run's first point
    `8·(t / 8)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.1 = Pipeline.accAt (fun n h => scAt0_1 m c n h (VS0_1.read (Elt F) VS0_1.junk)) (scAt0_1 m c) (8 * (t.val / 8)) (t.val % 8)
      (by have h1 := t.isLt; have h2 := Nat.div_add_mod t.val 8; omega) :=
  Pipeline.eq_accAt_of_mod (fun n h => (outsAt0 m c n h).2.2.2.2.1) 8 (fun n h => scAt0_1 m c n h (VS0_1.read (Elt F) VS0_1.junk)) (scAt0_1 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S520x512 .f32) : Vec F S520x512 .f32 :=
  if h0 : n % 8 = 0 then
    sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v5) (V m c main_v3)
  else
    sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2 (V m c main_v5) (V m c main_v3)

/-- WHAT CARRIED SCRATCH 2 HOLDS after point `t`: the fold of its run up to `t`, from the reset at the run's first point
    `8·(t / 8)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2.2.1 = Pipeline.accAt (fun n h => scAt0_2 m c n h (VS0_2.read (Elt F) VS0_2.junk)) (scAt0_2 m c) (8 * (t.val / 8)) (t.val % 8)
      (by have h1 := t.isLt; have h2 := Nat.div_add_mod t.val 8; omega) :=
  Pipeline.eq_accAt_of_mod (fun n h => (outsAt0 m c n h).2.2.2.2.2.1) 8 (fun n h => scAt0_2 m c n h (VS0_2.read (Elt F) VS0_2.junk)) (scAt0_2 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_2; rw [dif_pos h0] <;> try rfl) | (rw [outsAt0_B m c ⟨n, h⟩ h0]; dsimp only; unfold scAt0_2; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_2; rw [dif_pos h0] <;> try rfl) | (rw [outsAt0_B m c ⟨n + 1, h⟩ h0]; dsimp only; unfold scAt0_2; rw [dif_neg h0] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2.2.1 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the first point
    stores the scratch whole without reading what it held, and `acc` does not enter there (nor where no point meets the
    conditions: `acc`, never read). -/
def scAt0_3 (c : Dev nD) (n : ℕ) (hb : n < cfg0.N) (acc : Vec F S544x512 .f32) : Vec F S544x512 .f32 :=
  if h0 : n % 8 = 0 then
    sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v5) (V m c main_v3)
  else
    sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc (V m c main_v5) (V m c main_v3)

/-- WHAT CARRIED SCRATCH 3 HOLDS after point `t`: the fold of its run up to `t`, from the reset at the run's first point
    `8·(t / 8)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.2.2.2.2 = Pipeline.accAt (fun n h => scAt0_3 m c n h (VS0_3.read (Elt F) VS0_3.junk)) (scAt0_3 m c) (8 * (t.val / 8)) (t.val % 8)
      (by have h1 := t.isLt; have h2 := Nat.div_add_mod t.val 8; omega) :=
  Pipeline.eq_accAt_of_mod (fun n h => (outsAt0 m c n h).2.2.2.2.2.2) 8 (fun n h => scAt0_3 m c n h (VS0_3.read (Elt F) VS0_3.junk)) (scAt0_3 m c)
    (fun n h hn => by
      have hN := lt_of_lt_of_eq h (show cfg0.N = 8 from N_0)
      by_cases h0 : n % 8 = 0
      all_goals first | (exfalso; omega) | (rw [outsAt0_A m c ⟨n, h⟩ h0]; dsimp only; unfold scAt0_3; rw [dif_pos h0] <;> try rfl) | (rw [outsAt0_B m c ⟨n, h⟩ h0]; dsimp only; unfold scAt0_3; rw [dif_neg h0] <;> try rfl))
    (fun n h hn => by
      have hN := lt_of_lt_of_eq h (show cfg0.N = 8 from N_0)
      by_cases h0 : (n + 1) % 8 = 0
      all_goals first | (exfalso; omega) | (rw [outsAt0_A m c ⟨n + 1, h⟩ h0]; dsimp only; unfold scAt0_3; rw [dif_pos h0] <;> try rfl) | (rw [outsAt0_B m c ⟨n + 1, h⟩ h0]; dsimp only; unfold scAt0_3; rw [dif_neg h0] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.2.2.2.2 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 8 from N_0)
  have hd : n / 8 = 0 := Nat.div_eq_of_lt hN
  have hm : n % 8 = n := Nat.mod_eq_of_lt hN
  simpa only [hd, hm, Nat.mul_zero] using e

end Cert.Kernel6Ideal.Value

end
-- ==== Proof.MixerModel.lean ====
/- The mixer's projection over the extended reals: the norm and the projection, entry by entry. -/
module

public import Idealize.ShloMosaic.PureOps.Ideal.Laws
public import Idealize.ShloMosaic.Lib.IdealHost

@[expose] public section

noncomputable section

namespace Cert.Proof.MixerModel

open Idealize.ShloMosaic
open scoped BigOperators

/-- What the mixer's projection is of: its input, the norm's gain, the input weight. -/
structure Args where
  X : Fin 4096 → Fin 1024 → EReal
  G : Fin 1024 → EReal
  Wi : Fin 1024 → Fin 2048 → EReal

/-- Column `c` of the `q`-th quarter of the projection. -/
def quarter (q : Fin 4) (c : Fin 512) : Fin 2048 := ⟨512 * q.val + c.val, by omega⟩

variable (p : Args)

/-- The norm's output. -/
def hh (r : Fin 4096) (j : Fin 1024) : EReal :=
  p.X r j * Ideal.rsqrt (Ideal.div (∑ k, p.X r k * p.X r k) (Ideal.ofBits .f32 0x44800000#32)
    + Ideal.ofBits .f32 0x358637BD#32) * p.G j

/-- The projection. -/
def pj (r : Fin 4096) (k : Fin 2048) : EReal := ∑ j, hh p r j * p.Wi j k

end Cert.Proof.MixerModel

end
-- ==== Proof.MixerBlock.lean ====
/- One block of 512 rows in the mixer's forward pass: what its body computes of the projection, read at an index. The
   block's rows are rows `ρ` of the arrays. -/
module

public import proofs.«01_k».proof.Proof.MixerModel
public import proofs.«01_k».proof.Proof.Gen.Kernel6Ideal.Skeleton
public import Idealize.ShloMosaic.Lib.Pointwise

@[expose] public section

set_option maxRecDepth 16384

noncomputable section

namespace Cert.Proof.MixerBlock

open Idealize.ShloMosaic Cert.Kernel6Ideal Cert.Kernel6Ideal.Gen Cert.Proof.MixerModel
open scoped BigOperators

variable {p : Args} {ρ : Fin 512 → Fin 4096} {x : FVec Ideal S512x1024 .f32} {g : FVec Ideal S1x1024 .f32}

/-- The norm's output. -/
theorem pay7 (hx : ∀ i, x i = p.X (ρ (i 0)) (i 1)) (hg : ∀ i, g i = p.G (i 1)) (i : S512x1024.Idx) :
    k0_pay7 (F := Ideal) x g i = hh p (ρ (i 0)) (i 1) := by
  pointwise [k0_pay7]
  simp only [hx, hg]
  rfl

section Proj

variable {w : FVec Ideal S512x1024 .bf16} {q : Fin 4} (hx : ∀ i, x i = p.X (ρ (i 0)) (i 1)) (hg : ∀ i, g i = p.G (i 1))
  (hw : ∀ i, w i = p.Wi (i 1) (quarter q (i 0)))
include hx hg hw

theorem pay8 (i : S512x512.Idx) : k0_pay8 (F := Ideal) x g w i = pj p (ρ (i 0)) (quarter q (i 1)) := by
  pointwise [k0_pay8]
  simp only [pay7 hx hg, hw]
  rfl

theorem pay9 (i : S512x512.Idx) : k0_pay9 (F := Ideal) x g w i = pj p (ρ (i 0)) (quarter q (i 1)) := pay8 hx hg hw i
theorem pay10 (i : S512x512.Idx) : k0_pay10 (F := Ideal) x g w i = pj p (ρ (i 0)) (quarter q (i 1)) := pay8 hx hg hw i
theorem pay11 (i : S512x512.Idx) : k0_pay11 (F := Ideal) x g w i = pj p (ρ (i 0)) (quarter q (i 1)) := pay8 hx hg hw i

theorem pay12 (i : S512x512.Idx) : k0_pay12 (F := Ideal) x g w i = pj p (ρ (i 0)) (quarter q (i 1)) := by
  pointwise [k0_pay12]
  exact pay8 hx hg hw _

theorem pay13 (i : S512x512.Idx) : k0_pay13 (F := Ideal) x g w i = pj p (ρ (i 0)) (quarter q (i 1)) := pay12 hx hg hw i
theorem pay14 (i : S512x512.Idx) : k0_pay14 (F := Ideal) x g w i = pj p (ρ (i 0)) (quarter q (i 1)) := pay12 hx hg hw i

end Proj

theorem pay15 {u : FVec Ideal S512x512 .f32} {q : Fin 4} (hu : ∀ i, u i = pj p (ρ (i 0)) (quarter q (i 1))) (i : S512x512.Idx) :
    k0_pay15 (F := Ideal) u i = pj p (ρ (i 0)) (quarter q (i 1)) := by
  pointwise [k0_pay15]
  exact hu _

end Cert.Proof.MixerBlock

end
-- ==== Proof.MixerProj.lean ====
/- What one grid point of the mixer's forward pass leaves of the projection and of the held weight: the first point copies
   the weight in, every later one finds it there. -/
module

public import proofs.«01_k».proof.Proof.MixerValue
public import proofs.«01_k».proof.Proof.MixerBlock
public import Idealize.ShloMosaic.Lib.Pipeline.ValueKit
public import Idealize.ShloMosaic.Lib.Pipeline.ReadBack

@[expose] public section

set_option maxRecDepth 16384

noncomputable section

namespace Cert.Proof.MixerProj

open Idealize.ShloMosaic Idealize.SL.Sem Cert.Kernel6Ideal Cert.Kernel6Ideal.Gen Cert.Proof.MixerModel

/-- Row `r` of point `t`'s block, as a row of the arrays. -/
def row (t : Fin cfg0.N) (r : Fin 512) : Fin 4096 :=
  ⟨512 * t.val + r.val, by have h := lt_of_lt_of_eq t.isLt (show cfg0.N = 8 from N_0); omega⟩

variable {m : (ℓ : Loc nD τ sig) → Buf (Elt Ideal) ℓ} {c : Dev nD} {p : Args}

/-- The four pieces of a block of the projection. -/
def quarters (q3 q2 q1 q0 : FVec Ideal S512x512 .bf16) : List (View.Piece (Elt Ideal) S512x2048 .bf16) :=
  [⟨Rect.unit ![0, 1536] ![512, 512] inb_S512x2048_S512x512_0_1536, q3⟩,
    ⟨Rect.unit ![0, 1024] ![512, 512] inb_S512x2048_S512x512_0_1024, q2⟩,
    ⟨Rect.unit ![0, 512] ![512, 512] inb_S512x2048_S512x512_0_512, q1⟩,
    ⟨Rect.unit ![0, 0] ![512, 512] inb_S512x2048_S512x512_0_0, q0⟩]

theorem quarters_cover (q3 q2 q1 q0 : FVec Ideal S512x512 .bf16) (i : S512x2048.Idx) :
    ∃ q ∈ quarters q3 q2 q1 q0, i ∈ q.1.set := by
  have b0 : (i 0).val < 512 := (i 0).isLt
  have b1 : (i 1).val < 2048 := (i 1).isLt
  unfold quarters
  rcases lt_or_ge (i 1).val 512 with h | h
  · refine ⟨_, .tail _ (.tail _ (.tail _ (.head _))), (Rect.mem_set_unit (inb := inb_S512x2048_S512x512_0_0)).2 fun a => ?_⟩
    fin_cases a <;> simp <;> omega
  rcases lt_or_ge (i 1).val 1024 with h | h
  · refine ⟨_, .tail _ (.tail _ (.head _)), (Rect.mem_set_unit (inb := inb_S512x2048_S512x512_0_512)).2 fun a => ?_⟩
    fin_cases a <;> simp <;> omega
  rcases lt_or_ge (i 1).val 1536 with h | h
  · refine ⟨_, .tail _ (.head _), (Rect.mem_set_unit (inb := inb_S512x2048_S512x512_0_1024)).2 fun a => ?_⟩
    fin_cases a <;> simp <;> omega
  · refine ⟨_, .head _, (Rect.mem_set_unit (inb := inb_S512x2048_S512x512_0_1536)).2 fun a => ?_⟩
    fin_cases a <;> simp <;> omega

theorem quarters_at {ρ : Fin 512 → Fin 4096} {q3 q2 q1 q0 : FVec Ideal S512x512 .bf16}
    (e3 : ∀ i, q3 i = pj p (ρ (i 0)) (quarter 3 (i 1))) (e2 : ∀ i, q2 i = pj p (ρ (i 0)) (quarter 2 (i 1)))
    (e1 : ∀ i, q1 i = pj p (ρ (i 0)) (quarter 1 (i 1))) (e0 : ∀ i, q0 i = pj p (ρ (i 0)) (quarter 0 (i 1)))
    (i : S512x2048.Idx) : View.canon (quarters q3 q2 q1 q0) i = pj p (ρ (i 0)) (i 1) := by
  unfold quarters
  canon_tiles x h using quarters_cover q3 q2 q1 q0 i
  · exact (e3 x).trans (congrArg₂ (pj p) (congrArg ρ (Fin.ext h0.symm)) (Fin.ext h1.symm))
  · exact (e2 x).trans (congrArg₂ (pj p) (congrArg ρ (Fin.ext h0.symm)) (Fin.ext h1.symm))
  · exact (e1 x).trans (congrArg₂ (pj p) (congrArg ρ (Fin.ext h0.symm)) (Fin.ext h1.symm))
  · exact (e0 x).trans (congrArg₂ (pj p) (congrArg ρ (Fin.ext h0.symm)) (Fin.ext (show 512 * 0 + (x 1).val = (i 1).val by omega)))

/-- A load from an array held whole. -/
theorem unread_at {s : Shape} {e : EltTy} {M : Memref sig .tc .vmem s e} (h : M.IsWhole) (X : Vec Ideal s e)
    (r : Rect s) (i : r.shape.Idx) : View.readAt (Elt Ideal) M.view r.toLoadRect (h.unread X) i = X (r.toLoadRect.idx i) := by
  rw [View.readAt_apply, h.read_unread]

/-- A part of the input weight, of the whole it was copied from. -/
theorem wi_first {κ : Kind} {sp : Space} (v : View sig κ sp S2048x1024 .bf16) (hV : ∀ i : S2048x1024.Idx, (V m c main_v5 : FVec Ideal S2048x1024 .bf16) i = p.Wi (i 1) (i 0)) {o : ℕ} (q : Fin 4)
    (ho : o = 512 * q.val) (inb : ∀ k, (![o, 0] : Fin 2 → ℕ) k + (![512, 1024] : Fin 2 → ℕ) k ≤ S2048x1024.size k)
    (w : FVec Ideal S2048x1024 .bf16) (hw : w = V m c main_v5) (i : (⟨2, ![512, 1024]⟩ : Shape).Idx) :
    v.readCov [(⟨Rect.whole S2048x1024, w⟩ : View.Piece (Elt Ideal) S2048x1024 .bf16)]
      (Rect.unit (s := S2048x1024) ![o, 0] ![512, 1024] inb).toLoadRect i = p.Wi (i 1) (quarter q (i 0)) := by
  rw [View.readCov_eq_canon']
  refine (congrFun (View.canon_unit_zero (Val := Elt Ideal) (e := .bf16) rfl _ w) _).trans ?_
  rw [hw]
  exact (hV _).trans (congrArg₂ p.Wi (Fin.ext (show 0 + 1 * (i 1).val = (i 1).val by omega))
    (Fin.ext (show o + 1 * (i 0).val = 512 * q.val + (i 0).val by omega)))

/-- A part of the input weight, of the whole held. -/
theorem wi_later {W : FVec Ideal S2048x1024 .bf16} (hW : ∀ i : S2048x1024.Idx, W i = p.Wi (i 1) (i 0))
    (hw : scM0_0.IsWhole) {o : ℕ} (q : Fin 4)
    (ho : o = 512 * q.val) (inb : ∀ k, (![o, 0] : Fin 2 → ℕ) k + (![512, 1024] : Fin 2 → ℕ) k ≤ S2048x1024.size k)
    (i : (⟨2, ![512, 1024]⟩ : Shape).Idx) :
    View.readAt (Elt Ideal) scM0_0.view (Rect.unit (s := S2048x1024) ![o, 0] ![512, 1024] inb).toLoadRect (hw.unread W) i
      = p.Wi (i 1) (quarter q (i 0)) := by
  refine (unread_at hw W (Rect.unit (s := S2048x1024) ![o, 0] ![512, 1024] inb) i).trans ((hW _).trans ?_)
  exact congrArg₂ p.Wi (Fin.ext (show 0 + 1 * (i 1).val = (i 1).val by omega))
    (Fin.ext (show o + 1 * (i 0).val = 512 * q.val + (i 0).val by omega))

/-- The block's loads of the input and of the gain. -/
abbrev xLoad (m : (ℓ : Loc nD τ sig) → Buf (Elt Ideal) ℓ) (c : Dev nD) (t : Fin cfg0.N) : FVec Ideal S512x1024 .f32 :=
  View.readAt (Elt Ideal) (ms0_0 t).view (Rect.unit (s := S512x1024) ![0, 0] S512x1024.size inb_S512x1024_S512x1024_0_0).toLoadRect
    ((hs0_0 t).unread (iblk m c 0 t))

abbrev gLoad (m : (ℓ : Loc nD τ sig) → Buf (Elt Ideal) ℓ) (c : Dev nD) (t : Fin cfg0.N) : FVec Ideal S1x1024 .f32 :=
  View.readAt (Elt Ideal) (ms0_1 t).view (Rect.unit (s := S1x1024) ![0, 0] S1x1024.size inb_S1x1024_S1x1024_0_0).toLoadRect
    ((hs0_1 t).unread (iblk m c 1 t))

/-- A block of the projection from its loads. -/
def block (m : (ℓ : Loc nD τ sig) → Buf (Elt Ideal) ℓ) (c : Dev nD) (t : Fin cfg0.N) (w0 w1 w2 w3 : FVec Ideal S512x1024 .bf16) :
    List (View.Piece (Elt Ideal) S512x2048 .bf16) :=
  quarters (k0_pay15 (F := Ideal) (k0_pay11 (F := Ideal) (xLoad m c t) (gLoad m c t) w3))
    (k0_pay14 (F := Ideal) (xLoad m c t) (gLoad m c t) w2) (k0_pay13 (F := Ideal) (xLoad m c t) (gLoad m c t) w1)
    (k0_pay12 (F := Ideal) (xLoad m c t) (gLoad m c t) w0)

/-- What the points are given, read at an index. -/
structure Blocks (m : (ℓ : Loc nD τ sig) → Buf (Elt Ideal) ℓ) (c : Dev nD) (p : Args) : Prop where
  x : ∀ (t : Fin cfg0.N) (i : S512x1024.Idx), (iblk m c 0 t : FVec Ideal S512x1024 .f32) i = p.X (row t (i 0)) (i 1)
  g : ∀ (t : Fin cfg0.N) (i : S1x1024.Idx), (iblk m c 1 t : FVec Ideal S1x1024 .f32) i = p.G (i 1)
  wi : ∀ i : S2048x1024.Idx, (V m c main_v5 : FVec Ideal S2048x1024 .bf16) i = p.Wi (i 1) (i 0)

theorem block_at (B : Blocks m c p) (t : Fin cfg0.N) {w0 w1 w2 w3 : FVec Ideal S512x1024 .bf16}
    (h0 : ∀ i, w0 i = p.Wi (i 1) (quarter 0 (i 0))) (h1 : ∀ i, w1 i = p.Wi (i 1) (quarter 1 (i 0)))
    (h2 : ∀ i, w2 i = p.Wi (i 1) (quarter 2 (i 0))) (h3 : ∀ i, w3 i = p.Wi (i 1) (quarter 3 (i 0))) (i : S512x2048.Idx) :
    View.canon (block m c t w0 w1 w2 w3) i = pj p (row t (i 0)) (i 1) := by
  have hx : ∀ i, xLoad m c t i = p.X (row t (i 0)) (i 1) := fun i =>
    (unread_at _ _ _ _).trans ((B.x t _).trans (congrArg₂ p.X
      (congrArg (row t) (Fin.ext (show 0 + 1 * (i 0).val = (i 0).val by omega)))
      (Fin.ext (show 0 + 1 * (i 1).val = (i 1).val by omega))))
  have hg : ∀ i, gLoad m c t i = p.G (i 1) := fun i =>
    (unread_at _ _ _ _).trans ((B.g t _).trans (congrArg p.G (Fin.ext (show 0 + 1 * (i 1).val = (i 1).val by omega))))
  exact quarters_at (MixerBlock.pay15 (MixerBlock.pay11 hx hg h3)) (MixerBlock.pay14 hx hg h2) (MixerBlock.pay13 hx hg h1)
    (MixerBlock.pay12 hx hg h0) i

/-- One piece over the whole of an array is the array. -/
theorem canon_full (w : FVec Ideal S2048x1024 .bf16) :
    View.canon [(⟨Rect.whole S2048x1024, w⟩ : View.Piece (Elt Ideal) S2048x1024 .bf16)] = w :=
  View.canon_unit_zero (Val := Elt Ideal) (e := .bf16) rfl _ w

/-- Every point leaves the host's prepared weight in its scratch. -/
theorem held : ∀ (n : ℕ) (hn : n < cfg0.N), (outsAt0 m c n hn).2.2.2.1 = V m c main_v5 := by
  intro n
  induction n with
  | zero =>
    intro hn
    rw [outsAt0_A m c ⟨0, hn⟩ rfl]
    dsimp only
    funext y
    unfold sout0_A_0
    rw [View.read_writes_junk_eq_canon]
    exact congrFun (canon_full _) y
  | succ n ih =>
    intro hn
    have hN := lt_of_lt_of_eq hn (show cfg0.N = 8 from N_0)
    rw [outsAt0_B m c ⟨n + 1, hn⟩ (by show ¬(n + 1) % 8 = 0; omega)]
    exact ih (Nat.lt_of_succ_lt hn)

/-- The block of the projection a point leaves. -/
theorem out6 (B : Blocks m c p) (t : Fin cfg0.N) (i : S512x2048.Idx) :
    (outsAt0 m c t.val t.isLt).2.1 i = pj p (row t (i 0)) (i 1) := by
  by_cases h0 : t.val % 8 = 0
  · rw [outsAt0_A m c t h0]
    dsimp only
    unfold out0_A_6
    rw [View.read_writes_junk_eq_canon]
    have k := block_at B t (wi_first scM0_0.view B.wi 0 rfl inb_S2048x1024_S512x1024_0_0 (V m c main_v5) rfl)
      (wi_first scM0_0.view B.wi 1 rfl inb_S2048x1024_S512x1024_512_0 (V m c main_v5) rfl)
      (wi_first scM0_0.view B.wi 2 rfl inb_S2048x1024_S512x1024_1024_0 (V m c main_v5) rfl)
      (wi_first scM0_0.view B.wi 3 rfl inb_S2048x1024_S512x1024_1536_0 (V m c main_v5) rfl) i
    exact k
  · have hW : ∀ i : S2048x1024.Idx, (outsAt0 m c (t.val - 1) (Nat.lt_of_le_of_lt (Nat.sub_le _ _) t.isLt)).2.2.2.1 i
        = p.Wi (i 1) (i 0) := fun i => (congrFun (held _ _) i).trans (B.wi i)
    rw [outsAt0_B m c t h0]
    dsimp only
    unfold out0_B_6
    rw [View.read_writes_junk_eq_canon]
    have k := block_at B t (wi_later hW (Memref.isWhole_whole _) 0 rfl inb_S2048x1024_S512x1024_0_0)
      (wi_later hW (Memref.isWhole_whole _) 1 rfl inb_S2048x1024_S512x1024_512_0)
      (wi_later hW (Memref.isWhole_whole _) 2 rfl inb_S2048x1024_S512x1024_1024_0)
      (wi_later hW (Memref.isWhole_whole _) 3 rfl inb_S2048x1024_S512x1024_1536_0) i
    exact k

/-! ## The result array -/

theorem idx0 : ∀ t : Fin cfg0.N, win0_0.index t = ![t.val, 0] := by decide +kernel
theorem idx1 : ∀ t : Fin cfg0.N, win0_1.index t = ![0, 0] := by decide +kernel
theorem idx6 : ∀ t : Fin cfg0.N, win0_6.index t = ![t.val, 0] := by decide +kernel

theorem blk0 (t : Fin cfg0.N) (i : S512x1024.Idx) :
    (iblk m c 0 t : FVec Ideal S512x1024 .f32) i = (V m c main_arg0 : FVec Ideal S4096x1024 .f32) (ix2 (row t (i 0)) (i 1)) := by
  unfold row; blk_ext [iblk, idx0 t]

theorem blk1 (t : Fin cfg0.N) (i : S1x1024.Idx) :
    (iblk m c 1 t : FVec Ideal S1x1024 .f32) i = (V m c main_arg1 : FVec Ideal S1x1024 .f32) i := by
  blk_ext [iblk, idx1 t]

/-- The launched arguments are those of `p`. -/
structure Holds (m : (ℓ : Loc nD τ sig) → Buf (Elt Ideal) ℓ) (c : Dev nD) (p : Args) : Prop where
  h0 : ∀ i : S4096x1024.Idx, (m ((c.tc : Thread nD τ).loc main_arg0) : FVec Ideal S4096x1024 .f32) i = p.X (i 0) (i 1)
  h1 : ∀ i : S1x1024.Idx, (m ((c.tc : Thread nD τ).loc main_arg1) : FVec Ideal S1x1024 .f32) i = p.G (i 1)
  h2 : ∀ i : S1024x2048.Idx, (m ((c.tc : Thread nD τ).loc main_arg2) : FVec Ideal S1024x2048 .f32) i = p.Wi (i 0) (i 1)

theorem wi_at (L : Holds m c p) (i : S2048x1024.Idx) :
    (V m c main_v5 : FVec Ideal S2048x1024 .bf16) i = p.Wi (i 1) (i 0) := by
  entry_read
  exact L.h2 _

theorem blocks (L : Holds m c p) : Blocks m c p where
  x t i := by rw [blk0, V_main_arg0]; exact L.h0 _
  g t i := by rw [blk1, V_main_arg1]; exact L.h1 _
  wi := wi_at L

/-- The projection after the run. -/
theorem arr6 (L : Holds m c p) : (dats m 0 c).arrAt 6 cfg0.N = fun i : S4096x2048.Idx => pj p (i 0) (i 1) := by
  refine (dats m 0 c).arrAt_eq_of_covers 6 _ (by decide +kernel) fun t hf y => ?_
  blk_simp
  rw [after0_6]
  refine (out6 (blocks L) t y).trans ?_
  have e : (win0_6.blk t).view.emb y = ix2 (row t (y 0)) (y 1) := by unfold row; blk_ext [idx6 t]
  rw [e]; rfl

end Cert.Proof.MixerProj

end
-- ==== Proof.MixerRef.lean ====
/- The mixer's projection in the reference, read at an index. -/
module

public import proofs.«01_k».proof.Proof.MixerModel
public import proofs.«01_k».proof.Proof.Gen.Reference6Ideal.Read
public import Idealize.ShloMosaic.Lib.Pointwise

@[expose] public section

noncomputable section

namespace Cert.Proof.MixerRef

open Idealize.ShloMosaic Cert.Reference6Ideal Cert.Reference6Ideal.Gen Cert.Reference6Ideal.Read Cert.Proof.MixerModel
open scoped BigOperators

variable (p : Args)

/-- The three argument arrays that the projection is of are those of `p`. -/
structure Lifts (x0 : S4096x1024.Idx → EReal) (x1 : S1x1024.Idx → EReal) (x2 : S1024x2048.Idx → EReal) : Prop where
  h0 : ∀ i, x0 i = p.X (i 0) (i 1)
  h1 : ∀ i, x1 i = p.G (i 1)
  h2 : ∀ i, x2 i = p.Wi (i 0) (i 1)

variable {p} {x0 : S4096x1024.Idx → EReal} {x1 : S1x1024.Idx → EReal} {x2 : S1024x2048.Idx → EReal} (L : Lifts p x0 x1 x2)
include L

/-- The norm's output. -/
theorem v11 (i : S4096x1024.Idx) : val_main_v11 (F := Ideal) x0 x1 i = hh p (i 0) (i 1) := by
  simp only [val_main_v11_apply, val_main_v10_apply, val_main_v9_apply, val_main_v8_apply, val_main_v7_apply,
    val_main_v6_apply, val_main_v4_apply, val_main_v2_apply, val_main_v1_apply, val_main_v3_apply,
    val_main_v5_apply, val_main_v0_apply, val_main_cst_apply, val_main_cst_0_apply, val_main_cst_1_apply,
    Ideal.addf_def, Ideal.mulf_def, Ideal.hostDivf_def, Ideal.hostUnary_rsqrt_def, Ideal.ofBits_def,
    Ideal.ofBits_zero_f32, zero_add, L.h0, L.h1]
  rfl

/-- The projection before its cast. -/
theorem v12 (i : S4096x2048.Idx) : val_main_v12 (F := Ideal) x0 x1 x2 i = pj p (i 0) (i 1) := by
  simp only [val_main_v12_apply, v11 L, L.h2]
  rfl

theorem v13 (i : S4096x2048.Idx) : val_main_v13 (F := Ideal) x0 x1 x2 i = pj p (i 0) (i 1) := v12 L i

end Cert.Proof.MixerRef

end
-- ==== Proof.MixerClaims.lean ====
/- The claims about the mixer's forward call: it runs and keeps its arguments, its reference does, and both end with the
   same projection. -/
module

public import proofs.«01_k».proof.Defs
public import proofs.«01_k».proof.Proof.MixerProj
public import proofs.«01_k».proof.Proof.MixerRef
public import proofs.«01_k».proof.Proof.Gen.Kernel6
public import proofs.«01_k».proof.Proof.Gen.Reference6Ideal.Run
public import Idealize.ShloMosaic.Adequacy
public import Idealize.ShloMosaic.Init

@[expose] public section

noncomputable section

namespace Cert.Proof.MixerClaims

open Idealize.ShloMosaic Idealize.SL.Sem

section
variable [Cert.Kernel6.Facts] [Cert.Kernel6Ideal.Facts]

/-- The call's body table is its idealization's. -/
theorem defs₀_eq : Cert.Kernel6.defs₀ (F := Bits) = Cert.Kernel6Ideal.defs₀ (F := Bits) :=
  congrArg Defs.onTc (funext fun ℓ => funext fun a => by
    match ℓ, a with
    | 0, (t, s) => rfl)

/-- So is the table with the pipeline's labels. -/
theorem defs_eq : Cert.Kernel6.defs (F := Bits) = Cert.Kernel6Ideal.defs (F := Bits) :=
  congrArg (Pipeline.defs Cert.Kernel6Ideal.pcfgs) defs₀_eq

end

/-- The call runs, keeps its arguments, and ends quiescent: its text and its idealization's are one, and so is the run. -/
theorem frame_kernel6 : Cert.quiescent_Kernel6 (hKernel6 := Cert.Kernel6.Gen.facts) := fun m g _ => by
  rw [defs_eq]
  exact Cert.Kernel6Ideal.Gen.frame (F := Bits) m g

/-- So it does over the extended reals. -/
theorem frame_kernel6Ideal : Cert.quiescent_Kernel6Ideal (hKernel6Ideal := Cert.Kernel6Ideal.Gen.facts) := fun m g _ =>
  Cert.Kernel6Ideal.Gen.frame (F := Ideal) m g

/-- The reference runs, keeps its arguments, and ends quiescent. -/
theorem frame_reference6 : Cert.quiescent_Reference6Ideal (hReference6Ideal := Cert.Reference6Ideal.Gen.facts) :=
  fun m g _ =>
    (θ_run Cert.Reference6Ideal.defs _ _).mono (fun r h => ⟨fun c => (h c).2, sem_eq_zero_of_no_sems rfl r.2⟩)
      (Cert.Reference6Ideal.Value.run (F := Ideal) m g)

/-- An array at an equal index. -/
theorem at_index {S : Shape} {A : Type} (x : S.Idx → A) {i j : S.Idx} (e : i = j) : x i = x j := by rw [e]

/-- An index of a one-row array. -/
theorem eq_row {n : ℕ} (i : (⟨2, ![1, n]⟩ : Shape).Idx) : i = ix2 0 (i 1) :=
  (eq_ix2 i).trans (congrArg (fun a => ix2 a (i 1)) (Subsingleton.elim (α := Fin 1) _ _))

/-- The call's arguments that the projection is of. -/
def args6 (m : (ℓ : Loc Cert.Kernel6Ideal.nD Cert.Kernel6Ideal.τ Cert.Kernel6Ideal.sig) → Buf (Elt Ideal) ℓ)
    (c : Dev Cert.Kernel6Ideal.nD) : MixerModel.Args where
  X r j := m ((c.tc : Thread Cert.Kernel6Ideal.nD Cert.Kernel6Ideal.τ).loc Cert.Kernel6Ideal.main_arg0) (ix2 r j)
  G j := m ((c.tc : Thread Cert.Kernel6Ideal.nD Cert.Kernel6Ideal.τ).loc Cert.Kernel6Ideal.main_arg1) (ix2 0 j)
  Wi j k := m ((c.tc : Thread Cert.Kernel6Ideal.nD Cert.Kernel6Ideal.τ).loc Cert.Kernel6Ideal.main_arg2) (ix2 j k)

theorem holds6 (m : (ℓ : Loc Cert.Kernel6Ideal.nD Cert.Kernel6Ideal.τ Cert.Kernel6Ideal.sig) → Buf (Elt Ideal) ℓ)
    (c : Dev Cert.Kernel6Ideal.nD) : MixerProj.Holds m c (args6 m c) :=
  ⟨fun i => at_index _ (eq_ix2 i), fun i => at_index _ (eq_row i), fun i => at_index _ (eq_ix2 i)⟩

/-- Both programs end with the projection that MixerModel.lean names. -/
theorem algebraic6 : Cert.algebraic_Kernel6Ideal_Reference6Ideal (hKernel6Ideal := Cert.Kernel6Ideal.Gen.facts)
    (hReference6Ideal := Cert.Reference6Ideal.Gen.facts) := by
  intro m g m' g' _ hag
  have L' : ∀ c : Dev Cert.Reference6Ideal.nD, MixerRef.Lifts (args6 m c)
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2)) := fun c => by
    obtain ⟨e0, e1, e2, -⟩ := hag c
    rw [e0, e1, e2]
    exact ⟨(holds6 m c).h0, (holds6 m c).h1, (holds6 m c).h2⟩
  refine ⟨fun c i => MixerModel.pj (args6 m c) (i 0) (i 1), ?_, ?_⟩
  · exact (θ_run Cert.Kernel6Ideal.defs _ _).mono (fun r h c => ⟨(h c).2.1.trans (MixerProj.arr6 (holds6 m c)),
      (h c).2.2.2⟩) (Cert.Kernel6Ideal.Value.run_blocks (F := Ideal) m g)
  · exact (θ_run Cert.Reference6Ideal.defs _ _).mono (fun r h c => ⟨
      (h c).1.trans ((Cert.Reference6Ideal.Read.val_main_v13_eq _ _ _).trans (funext (MixerRef.v13 (L' c)))),
      (h c).2⟩) (Cert.Reference6Ideal.Value.run (F := Ideal) m' g')

end Cert.Proof.MixerClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite
public import proofs.«01_k».proof.Proof.Gen.Pre_finite4
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame.Runs
public import proofs.«01_k».proof.Proof.Gen.Reference6Ideal
public import proofs.«01_k».proof.Proof.Gen.Reference6Ideal.Run
public import proofs.«01_k».proof.Proof.Gen.Reference6Ideal.Read
public import proofs.«01_k».proof.Proof.KernelArrays
public import proofs.«01_k».proof.Proof.Finite
public import proofs.«01_k».proof.Proof.ForwardClaims
public import proofs.«01_k».proof.Proof.LossClaims
public import proofs.«01_k».proof.Proof.AdamClaims
public import proofs.«01_k».proof.Proof.MixerClaims
public import Idealize.ShloMosaic.Adequacy
public import Idealize.ShloMosaic.Init

@[expose] public section

noncomputable section

namespace Cert.Proof

open Idealize.ShloMosaic Idealize.SL.Sem Cert.Kernel

/-- The reference runs, keeps its arguments, and ends quiescent: it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems rfl r.2⟩)
    (Cert.ReferenceIdeal.Value.run (F := Ideal) m g)

/-- From finite arguments both programs end with the four arrays that Model.lean names. -/
theorem algebraic : Cert.algebraic_KernelIdeal_ReferenceIdeal_pre_finite (hKernelIdeal := Cert.KernelIdeal.Gen.facts)
    (hReferenceIdeal := Cert.ReferenceIdeal.Gen.facts) (hPre_finite := Finite.facts) := by
  intro m g m' g' hpre hag
  have L := fun c => Finite.holds hpre c
  have L' : ∀ c : Dev Cert.ReferenceIdeal.nD, RefValue.Lifts (Finite.args m c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) := fun c => by
    obtain ⟨e0, e1, e2, e3, e4, e5⟩ := hag c
    rw [e0, e1, e2, e3, e4, e5]
    exact L c
  refine ⟨fun c i => ((Model.dx (Finite.args m c) (i 0) (i 1) : ℝ) : EReal),
    fun c i => ((Model.dab (Finite.args m c) (i 0) (i 1) : ℝ) : EReal),
    fun c i => ((Model.hd (Finite.args m c) (i 0) (i 1) : ℝ) : EReal),
    fun c i => ((Model.dg (Finite.args m c) (i 1) : ℝ) : EReal), ?_, ?_⟩
  · exact (θ_run Cert.KernelIdeal.defs _ _).mono (fun r h c => ⟨(h c).1.trans (KernelArrays.arr5 (L c)),
      (h c).2.1.trans (KernelArrays.arr6 (L c)), (h c).2.2.1.trans (KernelArrays.arr7 (L c)),
      (h c).2.2.2.1.trans (KernelArrays.arr8 (L c)), (h c).2.2.2.2⟩) (Cert.KernelIdeal.Value.run_blocks (F := Ideal) m g)
  · exact (θ_run Cert.ReferenceIdeal.defs _ _).mono (fun r h c => ⟨
      (h c).1.trans ((Cert.ReferenceIdeal.Read.val_main_v58_eq m' c).trans (funext (RefValue.v58 (L' c)))),
      (h c).2.1.trans ((Cert.ReferenceIdeal.Read.val_main_v53_eq m' c).trans (funext (RefValue.v53 (L' c)))),
      (h c).2.2.1.trans ((Cert.ReferenceIdeal.Read.val_main_v57_eq _ _ _).trans (funext (RefValue.v57 (L' c)))),
      (h c).2.2.2.1.trans ((Cert.ReferenceIdeal.Read.val_main_v35_eq m' c).trans (funext (RefValue.v35 (L' c)))),
      (h c).2.2.2.2⟩) (Cert.ReferenceIdeal.Value.run (F := Ideal) m' g')

/-- Every claim of this directory. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Finite.facts, Cert.Pre_finite4.Gen.facts,
    fun m g _ => Cert.Kernel.Gen.frame m g, fun m g _ => Cert.KernelIdeal.Gen.frame m g,
    fun m g _ => Cert.KernelIdeal.Gen.frame m g, frame_reference, fun m g _ => frame_reference m g trivial,
    fun m g _ => Cert.Kernel2.Gen.frame m g, fun m g _ => Cert.Kernel2Ideal.Gen.frame m g, ForwardClaims.frame_reference2,
    fun m g _ => Cert.Kernel3.Gen.frame m g, fun m g _ => Cert.Kernel3Ideal.Gen.frame m g, ForwardClaims.frame_reference3,
    fun m g _ => Cert.Kernel4.Gen.frame m g, fun m g _ => Cert.Kernel4Ideal.Gen.frame m g,
    fun m g _ => Cert.Kernel4Ideal.Gen.frame m g, LossClaims.frame_reference4,
    fun m g _ => LossClaims.frame_reference4 m g trivial,
    fun m g _ => Cert.Kernel5.Gen.frame m g, fun m g _ => Cert.Kernel5Ideal.Gen.frame m g, AdamClaims.frame_reference5,
    MixerClaims.frame_kernel6, MixerClaims.frame_kernel6Ideal, MixerClaims.frame_reference6,
    trivial, algebraic, trivial, ForwardClaims.algebraic2, trivial, ForwardClaims.algebraic3, trivial,
    LossClaims.algebraic4, trivial, AdamClaims.algebraic5,
    trivial, MixerClaims.algebraic6⟩

end Cert.Proof

end
